-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_positive [hPre_scale_positive : Cert.Pre_scale_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scale_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_positive [hPre_scale_positive : Cert.Pre_scale_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scale_positive [hKernelIdeal : Cert.KernelIdeal.Facts] [hPre_scale_positive : Cert.Pre_scale_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scale_positive [hReferenceIdeal : Cert.ReferenceIdeal.Facts] [hPre_scale_positive : Cert.Pre_scale_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scale_positive [hKernelIdeal : Cert.KernelIdeal.Facts] [hReferenceIdeal : Cert.ReferenceIdeal.Facts] [hPre_scale_positive : Cert.Pre_scale_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scale_positive : Cert.Pre_scale_positive.Facts),
    quiescent_Kernel (hKernel := hKernel)
    ∧ quiescent_KernelIdeal (hKernelIdeal := hKernelIdeal)
    ∧ quiescent_KernelIdeal_pre_scale_positive (hKernelIdeal := hKernelIdeal) (hPre_scale_positive := hPre_scale_positive)
    ∧ quiescent_ReferenceIdeal (hReferenceIdeal := hReferenceIdeal)
    ∧ quiescent_ReferenceIdeal_pre_scale_positive (hReferenceIdeal := hReferenceIdeal) (hPre_scale_positive := hPre_scale_positive)
    ∧ preserves_Kernel_KernelIdeal
    ∧ algebraic_KernelIdeal_ReferenceIdeal_pre_scale_positive (hKernelIdeal := hKernelIdeal) (hReferenceIdeal := hReferenceIdeal) (hPre_scale_positive := hPre_scale_positive)
-- ==== Pre_scale_positive.lean ====
abbrev S1x2 : Shape := ⟨2, ![1, 2]⟩
abbrev S2048x16384 : Shape := ⟨2, ![2048, 16384]⟩
abbrev S2048x1024 : Shape := ⟨2, ![2048, 1024]⟩
abbrev S16384x1440 : Shape := ⟨2, ![16384, 1440]⟩
abbrev S16384x180 : Shape := ⟨2, ![16384, 180]⟩
abbrev S1x1 : Shape := ⟨2, ![1, 1]⟩
abbrev S_ : Shape := ⟨0, ![]⟩

class Facts : Prop where
  slices_S1x2_S1x1_0_0 : S1x2.Slices ![0, 0] S1x1
  shapeCasts_S1x1_S_ : S1x1.ShapeCasts S_

variable [Facts]

def fn {F : FTy → Type} [FloatOps F] (main_arg0 : FVec F S1x2 .f32) (main_arg1 : FVec F S2048x16384 .bf16) (main_arg2 : IVec S2048x16384 32) (main_arg3 : FVec F S2048x1024 .bf16) (main_arg4 : IVec S16384x1440 8) (main_arg5 : FVec F S16384x180 .fp8e4m3) : IVec S_ 1 :=
  let main_v0 : FVec F S1x1 .f32 := (extractStridedSlice S1x1 ![0, 0] · slices_S1x2_S1x1_0_0) main_arg0
  let main_v1 : FVec F S_ .f32 := shapeCast S_ main_v0 shapeCasts_S1x1_S_
  let main_cst : FVec F S_ .f32 := constant S_ .f32 0x00000000#32
  let main_v2 : IVec S_ 1 := cmpf .ogt main_v1 main_cst
  main_v2
-- ==== Kernel.lean ====
abbrev S1x2 : Shape := ⟨2, ![1, 2]⟩
abbrev S2048x16384 : Shape := ⟨2, ![2048, 16384]⟩
abbrev S2048x1024 : Shape := ⟨2, ![2048, 1024]⟩
abbrev S16384x1440 : Shape := ⟨2, ![16384, 1440]⟩
abbrev S16384x180 : Shape := ⟨2, ![16384, 180]⟩
abbrev S2048x2880 : Shape := ⟨2, ![2048, 2880]⟩
abbrev S2048x8192 : Shape := ⟨2, ![2048, 8192]⟩
abbrev S512x1024 : Shape := ⟨2, ![512, 1024]⟩
abbrev S512x128 : Shape := ⟨2, ![512, 128]⟩
abbrev S1024x1440 : Shape := ⟨2, ![1024, 1440]⟩
abbrev S1024x180 : Shape := ⟨2, ![1024, 180]⟩
abbrev S512x2880 : Shape := ⟨2, ![512, 2880]⟩
abbrev S512x512 : Shape := ⟨2, ![512, 512]⟩
abbrev S2048x3072 : Shape := ⟨2, ![2048, 3072]⟩
abbrev S1024x3072 : Shape := ⟨2, ![1024, 3072]⟩
abbrev S1x1 : Shape := ⟨2, ![1, 1]⟩
abbrev S32x128 : Shape := ⟨2, ![32, 128]⟩
abbrev S32x180 : Shape := ⟨2, ![32, 180]⟩
abbrev S32x52 : Shape := ⟨2, ![32, 52]⟩
abbrev S32x76 : Shape := ⟨2, ![32, 76]⟩
abbrev S8x128 : Shape := ⟨2, ![8, 128]⟩
abbrev S32x128x1 : Shape := ⟨3, ![32, 128, 1]⟩
abbrev S32x32 : Shape := ⟨2, ![32, 32]⟩
abbrev S8x32 : Shape := ⟨2, ![8, 32]⟩
abbrev S8x96 : Shape := ⟨2, ![8, 96]⟩
abbrev S8x128x1 : Shape := ⟨3, ![8, 128, 1]⟩
abbrev S512x3072 : Shape := ⟨2, ![512, 3072]⟩
abbrev S16x128 : Shape := ⟨2, ![16, 128]⟩
abbrev S16x128x1 : Shape := ⟨3, ![16, 128, 1]⟩
abbrev S16x64 : Shape := ⟨2, ![16, 64]⟩

abbrev nBuf : Space → Nat
  | .hbm => 9
  | .vmem => 19
  | .smem => 1
  | _ => 0

abbrev bufTy : (tb : Table) → Fin (tcTables nBuf tb) → BufTy
  | .hbm, ⟨0, _⟩ => ⟨S1x2, .f32⟩
  | .hbm, ⟨1, _⟩ => ⟨S2048x16384, .bf16⟩
  | .hbm, ⟨2, _⟩ => ⟨S2048x16384, .i32⟩
  | .hbm, ⟨3, _⟩ => ⟨S2048x1024, .bf16⟩
  | .hbm, ⟨4, _⟩ => ⟨S16384x1440, .i8⟩
  | .hbm, ⟨5, _⟩ => ⟨S16384x180, .fp8e4m3⟩
  | .hbm, ⟨6, _⟩ => ⟨S2048x2880, .bf16⟩
  | .hbm, ⟨7, _⟩ => ⟨S2048x8192, .i8⟩
  | .hbm, ⟨8, _⟩ => ⟨S2048x1024, .fp8e4m3⟩
  | .local _ .vmem, ⟨0, _⟩ => ⟨S512x1024, .bf16⟩
  | .local _ .vmem, ⟨1, _⟩ => ⟨S512x1024, .bf16⟩
  | .local _ .vmem, ⟨2, _⟩ => ⟨S512x1024, .i32⟩
  | .local _ .vmem, ⟨3, _⟩ => ⟨S512x1024, .i32⟩
  | .local _ .vmem, ⟨4, _⟩ => ⟨S512x128, .bf16⟩
  | .local _ .vmem, ⟨5, _⟩ => ⟨S512x128, .bf16⟩
  | .local _ .vmem, ⟨6, _⟩ => ⟨S1024x1440, .i8⟩
  | .local _ .vmem, ⟨7, _⟩ => ⟨S1024x1440, .i8⟩
  | .local _ .vmem, ⟨8, _⟩ => ⟨S1024x180, .fp8e4m3⟩
  | .local _ .vmem, ⟨9, _⟩ => ⟨S1024x180, .fp8e4m3⟩
  | .local _ .vmem, ⟨10, _⟩ => ⟨S512x2880, .bf16⟩
  | .local _ .vmem, ⟨11, _⟩ => ⟨S512x2880, .bf16⟩
  | .local _ .vmem, ⟨12, _⟩ => ⟨S512x512, .i8⟩
  | .local _ .vmem, ⟨13, _⟩ => ⟨S512x512, .i8⟩
  | .local _ .vmem, ⟨14, _⟩ => ⟨S512x128, .fp8e4m3⟩
  | .local _ .vmem, ⟨15, _⟩ => ⟨S512x128, .fp8e4m3⟩
  | .local _ .vmem, ⟨16, _⟩ => ⟨S2048x3072, .f32⟩
  | .local _ .vmem, ⟨17, _⟩ => ⟨S1024x3072, .bf16⟩
  | .local _ .vmem, ⟨18, _⟩ => ⟨S512x1024, .bf16⟩
  | .local _ .smem, ⟨0, _⟩ => ⟨S1x2, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

@[reducible] def k0_t1_loop : Scf.Loop 32 :=
  let c0_i32_31 : BitVec 32 := 0#32
  let c32_i32 : BitVec 32 := 32#32
  let v58 : BitVec 32 := Scalar.addi c0_i32_31 c32_i32
  let c1_i32_32 : BitVec 32 := 1#32
  ⟨c0_i32_31, v58, c1_i32_32⟩
def k0_mult1 (k0_t1 : Fin k0_t1_loop.trips) : BitVec 32 :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  v59
def k0_off1 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v61 : Index := Scalar.indexCast v60
  let c0_35 : Index := 0#32
  ![v61.toNat, 0]
def k0_off2 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v73 : Index := Scalar.indexCast v60
  let c0_38 : Index := 0#32
  ![v73.toNat, 0]
def k0_off3 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v133 : Index := Scalar.indexCast v60
  let c0_49 : Index := 0#32
  ![v133.toNat, 0]
def k0_off4 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v137 : Index := Scalar.indexCast v60
  let c128 : Index := 128#32
  ![v137.toNat, 128]
def k0_off5 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v141 : Index := Scalar.indexCast v60
  let c128_50 : Index := 128#32
  ![v141.toNat, 128]
def k0_off6 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v201 : Index := Scalar.indexCast v60
  let c256 : Index := 256#32
  ![v201.toNat, 256]
def k0_off7 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v205 : Index := Scalar.indexCast v60
  let c384 : Index := 384#32
  ![v205.toNat, 384]
def k0_off8 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v209 : Index := Scalar.indexCast v60
  let c256_68 : Index := 256#32
  ![v209.toNat, 256]
def k0_off9 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v269 : Index := Scalar.indexCast v60
  let c512 : Index := 512#32
  ![v269.toNat, 512]
def k0_off10 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v273 : Index := Scalar.indexCast v60
  let c640 : Index := 640#32
  ![v273.toNat, 640]
def k0_off11 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v277 : Index := Scalar.indexCast v60
  let c384_86 : Index := 384#32
  ![v277.toNat, 384]
def k0_off12 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v337 : Index := Scalar.indexCast v60
  let c768 : Index := 768#32
  ![v337.toNat, 768]
def k0_off13 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v341 : Index := Scalar.indexCast v60
  let c896 : Index := 896#32
  ![v341.toNat, 896]
def k0_off14 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v345 : Index := Scalar.indexCast v60
  let c512_103 : Index := 512#32
  ![v345.toNat, 512]
def k0_off15 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v405 : Index := Scalar.indexCast v60
  let c1024 : Index := 1024#32
  ![v405.toNat, 1024]
def k0_off16 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v409 : Index := Scalar.indexCast v60
  let c1152 : Index := 1152#32
  ![v409.toNat, 1152]
def k0_off17 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v413 : Index := Scalar.indexCast v60
  let c640_121 : Index := 640#32
  ![v413.toNat, 640]
def k0_off18 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v473 : Index := Scalar.indexCast v60
  let c1280 : Index := 1280#32
  ![v473.toNat, 1280]
def k0_off19 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v477 : Index := Scalar.indexCast v60
  let c1408 : Index := 1408#32
  ![v477.toNat, 1408]
def k0_off20 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v481 : Index := Scalar.indexCast v60
  let c768_138 : Index := 768#32
  ![v481.toNat, 768]
def k0_off21 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v541 : Index := Scalar.indexCast v60
  let c1536 : Index := 1536#32
  ![v541.toNat, 1536]
def k0_off22 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v545 : Index := Scalar.indexCast v60
  let c1664 : Index := 1664#32
  ![v545.toNat, 1664]
def k0_off23 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v549 : Index := Scalar.indexCast v60
  let c896_155 : Index := 896#32
  ![v549.toNat, 896]
def k0_off24 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v609 : Index := Scalar.indexCast v60
  let c1792 : Index := 1792#32
  ![v609.toNat, 1792]
def k0_off25 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v613 : Index := Scalar.indexCast v60
  let c1920 : Index := 1920#32
  ![v613.toNat, 1920]
def k0_off26 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v617 : Index := Scalar.indexCast v60
  let c1024_172 : Index := 1024#32
  ![v617.toNat, 1024]
def k0_off27 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v677 : Index := Scalar.indexCast v60
  let c2048 : Index := 2048#32
  ![v677.toNat, 2048]
def k0_off28 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v681 : Index := Scalar.indexCast v60
  let c2176 : Index := 2176#32
  ![v681.toNat, 2176]
def k0_off29 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v685 : Index := Scalar.indexCast v60
  let c1152_190 : Index := 1152#32
  ![v685.toNat, 1152]
def k0_off30 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v745 : Index := Scalar.indexCast v60
  let c2304 : Index := 2304#32
  ![v745.toNat, 2304]
def k0_off31 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v749 : Index := Scalar.indexCast v60
  let c2432 : Index := 2432#32
  ![v749.toNat, 2432]
def k0_off32 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v753 : Index := Scalar.indexCast v60
  let c1280_208 : Index := 1280#32
  ![v753.toNat, 1280]
def k0_off33 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v813 : Index := Scalar.indexCast v60
  let c2560 : Index := 2560#32
  ![v813.toNat, 2560]
def k0_off34 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v817 : Index := Scalar.indexCast v60
  let c2688 : Index := 2688#32
  ![v817.toNat, 2688]
def k0_off35 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v821 : Index := Scalar.indexCast v60
  let c1408_226 : Index := 1408#32
  ![v821.toNat, 1408]
def k0_off36 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v883 : Index := Scalar.indexCast v60
  let c2816 : Index := 2816#32
  ![v883.toNat, 2816]
def k0_off37 (k0_t1 : Fin k0_t1_loop.trips) : Fin 2 → Nat :=
  let c0_i32_31 : BitVec 32 := 0#32
  let c1_i32_32 : BitVec 32 := 1#32
  let arg14 : BitVec 32 := Scf.iv c0_i32_31 c1_i32_32 k0_t1
  let c32_i32_34 : BitVec 32 := 32#32
  let v59 : BitVec 32 := Scalar.muli arg14 c32_i32_34
  let v60 : BitVec 32 := v59
  let v887 : Index := Scalar.indexCast v60
  let c2944 : Index := 2944#32
  ![v887.toNat, 2944]
@[reducible] def k0_t2_loop : Scf.Loop 32 :=
  let c0_i32_18 : BitVec 32 := 0#32
  let c16_i32 : BitVec 32 := 16#32
  let v42 : BitVec 32 := Scalar.addi c0_i32_18 c16_i32
  let c1_i32_19 : BitVec 32 := 1#32
  ⟨c0_i32_18, v42, c1_i32_19⟩
def k0_mult2 (k0_t2 : Fin k0_t2_loop.trips) : BitVec 32 :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  v57
def k0_off38 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v59 : Index := Scalar.indexCast v58
  let c0_31 : Index := 0#32
  ![v59.toNat, 0]
def k0_off39 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v147 : Index := Scalar.indexCast v58
  let c0_56 : Index := 0#32
  ![v147.toNat, 0]
def k0_off40 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v303 : Index := Scalar.indexCast v58
  let c128 : Index := 128#32
  ![v303.toNat, 128]
def k0_off41 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v399 : Index := Scalar.indexCast v58
  let c0_131 : Index := 0#32
  ![v399.toNat, 0]
def k0_off42 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v471 : Index := Scalar.indexCast v58
  let c256 : Index := 256#32
  ![v471.toNat, 256]
def k0_off43 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v627 : Index := Scalar.indexCast v58
  let c384 : Index := 384#32
  ![v627.toNat, 384]
def k0_off44 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v723 : Index := Scalar.indexCast v58
  let c128_237 : Index := 128#32
  ![v723.toNat, 128]
def k0_off45 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v795 : Index := Scalar.indexCast v58
  let c512 : Index := 512#32
  ![v795.toNat, 512]
def k0_off46 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v951 : Index := Scalar.indexCast v58
  let c640 : Index := 640#32
  ![v951.toNat, 640]
def k0_off47 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v1047 : Index := Scalar.indexCast v58
  let c256_343 : Index := 256#32
  ![v1047.toNat, 256]
def k0_off48 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v1119 : Index := Scalar.indexCast v58
  let c768 : Index := 768#32
  ![v1119.toNat, 768]
def k0_off49 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v1275 : Index := Scalar.indexCast v58
  let c896 : Index := 896#32
  ![v1275.toNat, 896]
def k0_off50 (k0_t2 : Fin k0_t2_loop.trips) : Fin 2 → Nat :=
  let c0_i32_18 : BitVec 32 := 0#32
  let c1_i32_19 : BitVec 32 := 1#32
  let arg14 : BitVec 32 := Scf.iv c0_i32_18 c1_i32_19 k0_t2
  let c32_i32 : BitVec 32 := 32#32
  let v57 : BitVec 32 := Scalar.muli arg14 c32_i32
  let v58 : BitVec 32 := v57
  let v1371 : Index := Scalar.indexCast v58
  let c384_448 : Index := 384#32
  ![v1371.toNat, 384]
def k0_mult3 (i : grid0.Coords) : BitVec 32 :=
  let arg1 : BitVec 32 := BitVec.ofNat 32 (i 1).val
  let c512_i32 : BitVec 32 := 512#32
  let v43 : BitVec 32 := Scalar.muli arg1 c512_i32
  v43
def k0_cond2 (i : grid0.Coords) : BitVec 1 :=
  let arg0 : BitVec 32 := BitVec.ofNat 32 (i 0).val
  let c0_i32_26 : BitVec 32 := 0#32
  let v48 : BitVec 1 := Scalar.cmpi .eq arg0 c0_i32_26
  let v49 : BitVec 32 := Scalar.extui v48
  let c0_i32_27 : BitVec 32 := 0#32
  let v50 : BitVec 1 := Scalar.cmpi .ne v49 c0_i32_27
  v50

def k0_off51 (i : grid0.Coords) : Fin 2 → Nat :=
  let arg1 : BitVec 32 := BitVec.ofNat 32 (i 1).val
  let c512_i32 : BitVec 32 := 512#32
  let v43 : BitVec 32 := Scalar.muli arg1 c512_i32
  let v44 : BitVec 32 := v43
  let v57 : Index := Scalar.indexCast v44
  let c0_31 : Index := 0#32
  ![v57.toNat, 0]
def k0_cond3 (i : grid0.Coords) : BitVec 1 :=
  let arg0 : BitVec 32 := BitVec.ofNat 32 (i 0).val
  let c0_i32_28 : BitVec 32 := 0#32
  let v51 : BitVec 1 := Scalar.cmpi .sgt arg0 c0_i32_28
  let v52 : BitVec 32 := Scalar.extui v51
  let c0_i32_29 : BitVec 32 := 0#32
  let v53 : BitVec 1 := Scalar.cmpi .ne v52 c0_i32_29
  v53

def k0_off52 (i : grid0.Coords) : Fin 2 → Nat :=
  let arg1 : BitVec 32 := BitVec.ofNat 32 (i 1).val
  let c512_i32 : BitVec 32 := 512#32
  let v43 : BitVec 32 := Scalar.muli arg1 c512_i32
  let v44 : BitVec 32 := v43
  let v57 : Index := Scalar.indexCast v44
  let c0_31 : Index := 0#32
  ![v57.toNat, 0]
def k0_cond4 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_30 : BitVec 32 := 0#32
  let v56 : BitVec 1 := Scalar.cmpi .ne v55 c0_i32_30
  v56

@[reducible] def k0_t3_loop : Scf.Loop 32 :=
  let c0_i32_31 : BitVec 32 := 0#32
  let c32_i32 : BitVec 32 := 32#32
  let v57 : BitVec 32 := Scalar.addi c0_i32_31 c32_i32
  let c1_i32_32 : BitVec 32 := 1#32
  ⟨c0_i32_31, v57, c1_i32_32⟩
def k0_mult4 (i : grid0.Coords) (k0_t3 : Fin k0_t3_loop.trips) : BitVec 32 :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  v59
def k0_mult5 (k0_t3 : Fin k0_t3_loop.trips) : BitVec 32 :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  v61
def k0_off53 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v63 : Index := Scalar.indexCast v60
  let c0_36 : Index := 0#32
  ![v63.toNat, 0]
def k0_off54 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v65 : Index := Scalar.indexCast v60
  let c128 : Index := 128#32
  ![v65.toNat, 128]
def k0_off55 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v150 : Index := Scalar.indexCast v62
  let c0_58 : Index := 0#32
  ![v150.toNat, 0]
def k0_off56 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v226 : Index := Scalar.indexCast v62
  let c128_81 : Index := 128#32
  ![v226.toNat, 128]
def k0_off57 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v228 : Index := Scalar.indexCast v60
  let c256 : Index := 256#32
  ![v228.toNat, 256]
def k0_off58 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v230 : Index := Scalar.indexCast v60
  let c384 : Index := 384#32
  ![v230.toNat, 384]
def k0_off59 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v315 : Index := Scalar.indexCast v62
  let c256_104 : Index := 256#32
  ![v315.toNat, 256]
def k0_off60 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v391 : Index := Scalar.indexCast v62
  let c384_127 : Index := 384#32
  ![v391.toNat, 384]
def k0_off61 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v393 : Index := Scalar.indexCast v60
  let c512 : Index := 512#32
  ![v393.toNat, 512]
def k0_off62 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v395 : Index := Scalar.indexCast v60
  let c640 : Index := 640#32
  ![v395.toNat, 640]
def k0_off63 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v480 : Index := Scalar.indexCast v62
  let c512_150 : Index := 512#32
  ![v480.toNat, 512]
def k0_off64 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v556 : Index := Scalar.indexCast v62
  let c640_173 : Index := 640#32
  ![v556.toNat, 640]
def k0_off65 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v558 : Index := Scalar.indexCast v60
  let c768 : Index := 768#32
  ![v558.toNat, 768]
def k0_off66 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v560 : Index := Scalar.indexCast v60
  let c896 : Index := 896#32
  ![v560.toNat, 896]
def k0_off67 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v645 : Index := Scalar.indexCast v62
  let c768_196 : Index := 768#32
  ![v645.toNat, 768]
def k0_off68 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v721 : Index := Scalar.indexCast v62
  let c896_219 : Index := 896#32
  ![v721.toNat, 896]
def k0_off69 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v723 : Index := Scalar.indexCast v60
  let c1024 : Index := 1024#32
  ![v723.toNat, 1024]
def k0_off70 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v725 : Index := Scalar.indexCast v60
  let c1152 : Index := 1152#32
  ![v725.toNat, 1152]
def k0_off71 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v810 : Index := Scalar.indexCast v62
  let c1024_242 : Index := 1024#32
  ![v810.toNat, 1024]
def k0_off72 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v886 : Index := Scalar.indexCast v62
  let c1152_265 : Index := 1152#32
  ![v886.toNat, 1152]
def k0_off73 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v888 : Index := Scalar.indexCast v60
  let c1280 : Index := 1280#32
  ![v888.toNat, 1280]
def k0_off74 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v890 : Index := Scalar.indexCast v60
  let c1408 : Index := 1408#32
  ![v890.toNat, 1408]
def k0_off75 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v975 : Index := Scalar.indexCast v62
  let c1280_288 : Index := 1280#32
  ![v975.toNat, 1280]
def k0_off76 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1051 : Index := Scalar.indexCast v62
  let c1408_311 : Index := 1408#32
  ![v1051.toNat, 1408]
def k0_off77 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1053 : Index := Scalar.indexCast v60
  let c1536 : Index := 1536#32
  ![v1053.toNat, 1536]
def k0_off78 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1055 : Index := Scalar.indexCast v60
  let c1664 : Index := 1664#32
  ![v1055.toNat, 1664]
def k0_off79 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1140 : Index := Scalar.indexCast v62
  let c1536_334 : Index := 1536#32
  ![v1140.toNat, 1536]
def k0_off80 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1216 : Index := Scalar.indexCast v62
  let c1664_357 : Index := 1664#32
  ![v1216.toNat, 1664]
def k0_off81 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1218 : Index := Scalar.indexCast v60
  let c1792 : Index := 1792#32
  ![v1218.toNat, 1792]
def k0_off82 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1220 : Index := Scalar.indexCast v60
  let c1920 : Index := 1920#32
  ![v1220.toNat, 1920]
def k0_off83 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1305 : Index := Scalar.indexCast v62
  let c1792_380 : Index := 1792#32
  ![v1305.toNat, 1792]
def k0_off84 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1381 : Index := Scalar.indexCast v62
  let c1920_403 : Index := 1920#32
  ![v1381.toNat, 1920]
def k0_off85 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1383 : Index := Scalar.indexCast v60
  let c2048 : Index := 2048#32
  ![v1383.toNat, 2048]
def k0_off86 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1385 : Index := Scalar.indexCast v60
  let c2176 : Index := 2176#32
  ![v1385.toNat, 2176]
def k0_off87 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1470 : Index := Scalar.indexCast v62
  let c2048_426 : Index := 2048#32
  ![v1470.toNat, 2048]
def k0_off88 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1546 : Index := Scalar.indexCast v62
  let c2176_449 : Index := 2176#32
  ![v1546.toNat, 2176]
def k0_off89 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1548 : Index := Scalar.indexCast v60
  let c2304 : Index := 2304#32
  ![v1548.toNat, 2304]
def k0_off90 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1550 : Index := Scalar.indexCast v60
  let c2432 : Index := 2432#32
  ![v1550.toNat, 2432]
def k0_off91 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1635 : Index := Scalar.indexCast v62
  let c2304_472 : Index := 2304#32
  ![v1635.toNat, 2304]
def k0_off92 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1711 : Index := Scalar.indexCast v62
  let c2432_495 : Index := 2432#32
  ![v1711.toNat, 2432]
def k0_off93 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1713 : Index := Scalar.indexCast v60
  let c2560 : Index := 2560#32
  ![v1713.toNat, 2560]
def k0_off94 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1715 : Index := Scalar.indexCast v60
  let c2688 : Index := 2688#32
  ![v1715.toNat, 2688]
def k0_off95 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1800 : Index := Scalar.indexCast v62
  let c2560_518 : Index := 2560#32
  ![v1800.toNat, 2560]
def k0_off96 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1876 : Index := Scalar.indexCast v62
  let c2688_541 : Index := 2688#32
  ![v1876.toNat, 2688]
def k0_off97 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1878 : Index := Scalar.indexCast v60
  let c2816 : Index := 2816#32
  ![v1878.toNat, 2816]
def k0_off98 (i : grid0.Coords) (k0_t3 : Fin k0_t3_loop.trips) : Fin 2 → Nat :=
  let arg1 : BitVec 32 := BitVec.ofNat 32 (i 1).val
  let c512_i32 : BitVec 32 := 512#32
  let v43 : BitVec 32 := Scalar.muli arg1 c512_i32
  let v44 : BitVec 32 := v43
  let c0_i32_31 : BitVec 32 := 0#32
  let c1_i32_32 : BitVec 32 := 1#32
  let arg14 : BitVec 32 := Scf.iv c0_i32_31 c1_i32_32 k0_t3
  let c16_i32_34 : BitVec 32 := 16#32
  let v58 : BitVec 32 := Scalar.muli arg14 c16_i32_34
  let v59 : BitVec 32 := Scalar.addi v44 v58
  let v60 : BitVec 32 := v59
  let v1880 : Index := Scalar.indexCast v60
  let c2944 : Index := 2944#32
  ![v1880.toNat, 2944]
def k0_off99 (k0_t3 : Fin k0_t3_loop.trips) : Fin 2 → Nat :=
  let c0_i32_31 : BitVec 32 := 0#32
  let c1_i32_32 : BitVec 32 := 1#32
  let arg14 : BitVec 32 := Scf.iv c0_i32_31 c1_i32_32 k0_t3
  let c16_i32_35 : BitVec 32 := 16#32
  let v61 : BitVec 32 := Scalar.muli arg14 c16_i32_35
  let v62 : BitVec 32 := v61
  let v1966 : Index := Scalar.indexCast v62
  let c2816_564 : Index := 2816#32
  ![v1966.toNat, 2816]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1440 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x180 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2880 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x2 : Shape := ⟨2, ![1, 2]⟩
abbrev S2048x16384 : Shape := ⟨2, ![2048, 16384]⟩
abbrev S2048x1024 : Shape := ⟨2, ![2048, 1024]⟩
abbrev S16384x1440 : Shape := ⟨2, ![16384, 1440]⟩
abbrev S16384x180 : Shape := ⟨2, ![16384, 180]⟩
abbrev S2048x2880 : Shape := ⟨2, ![2048, 2880]⟩
abbrev S2048x8192 : Shape := ⟨2, ![2048, 8192]⟩
abbrev S1x1 : Shape := ⟨2, ![1, 1]⟩
abbrev S2048x1024x1 : Shape := ⟨3, ![2048, 1024, 1]⟩
abbrev S2048x1024x16 : Shape := ⟨3, ![2048, 1024, 16]⟩
abbrev S2048x8192x2 : Shape := ⟨3, ![2048, 8192, 2]⟩
abbrev S2048x8192x1 : Shape := ⟨3, ![2048, 8192, 1]⟩
abbrev S16384x1440x1 : Shape := ⟨3, ![16384, 1440, 1]⟩
abbrev S16384x1440x2 : Shape := ⟨3, ![16384, 1440, 2]⟩
abbrev S16384x2880 : Shape := ⟨2, ![16384, 2880]⟩
abbrev S16384x180x1 : Shape := ⟨3, ![16384, 180, 1]⟩
abbrev S16384x180x16 : Shape := ⟨3, ![16384, 180, 16]⟩

abbrev nBuf : Space → Nat
  | .hbm => 9
  | .vmem => 8
  | .smem => 1
  | _ => 0

abbrev bufTy : (tb : Table) → Fin (tcTables nBuf tb) → BufTy
  | .hbm, ⟨0, _⟩ => ⟨S1x2, .f32⟩
  | .hbm, ⟨1, _⟩ => ⟨S2048x16384, .bf16⟩
  | .hbm, ⟨2, _⟩ => ⟨S2048x16384, .i32⟩
  | .hbm, ⟨3, _⟩ => ⟨S2048x1024, .bf16⟩
  | .hbm, ⟨4, _⟩ => ⟨S16384x1440, .i8⟩
  | .hbm, ⟨5, _⟩ => ⟨S16384x180, .fp8e4m3⟩
  | .hbm, ⟨6, _⟩ => ⟨S2048x2880, .bf16⟩
  | .hbm, ⟨7, _⟩ => ⟨S2048x8192, .i8⟩
  | .hbm, ⟨8, _⟩ => ⟨S2048x1024, .fp8e4m3⟩
  | .local _ .vmem, ⟨0, _⟩ => ⟨S2048x16384, .bf16⟩
  | .local _ .vmem, ⟨1, _⟩ => ⟨S2048x16384, .i32⟩
  | .local _ .vmem, ⟨2, _⟩ => ⟨S2048x1024, .bf16⟩
  | .local _ .vmem, ⟨3, _⟩ => ⟨S16384x1440, .i8⟩
  | .local _ .vmem, ⟨4, _⟩ => ⟨S16384x180, .fp8e4m3⟩
  | .local _ .vmem, ⟨5, _⟩ => ⟨S2048x2880, .bf16⟩
  | .local _ .vmem, ⟨6, _⟩ => ⟨S2048x8192, .i8⟩
  | .local _ .vmem, ⟨7, _⟩ => ⟨S2048x1024, .fp8e4m3⟩
  | .local _ .smem, ⟨0, _⟩ => ⟨S1x2, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1440 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x180 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2880 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x8192 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelBody.lean ====
/- One run of the kernel's body, at any grid point: from the staged blocks and the three scratch buffers at any
   contents to the same blocks and some contents. Nothing is said of what is computed here. -/
module

public import proofs.«01_k».proof.Proof.Gen.Kernel.Loops
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body keeps the six input blocks and leaves some contents in the three outputs and the three scratch buffers. The
    two conditions on the first grid coordinate exclude each other. -/
theorem body_run (c : Dev nD) (i : grid0.Coords) (arg2 : Memref sig .tc .smem S1x2 .f32) (harg2 : arg2.IsWhole)
    (arg3 : Memref sig .tc .vmem S512x1024 .bf16) (harg3 : arg3.IsWhole) (arg4 : Memref sig .tc .vmem S512x1024 .i32) (harg4 : arg4.IsWhole)
    (arg5 : Memref sig .tc .vmem S512x128 .bf16) (harg5 : arg5.IsWhole) (arg6 : Memref sig .tc .vmem S1024x1440 .i8) (harg6 : arg6.IsWhole)
    (arg7 : Memref sig .tc .vmem S1024x180 .fp8e4m3) (harg7 : arg7.IsWhole) (arg8 : Memref sig .tc .vmem S512x2880 .bf16) (harg8 : arg8.IsWhole)
    (arg9 : Memref sig .tc .vmem S512x512 .i8) (harg9 : arg9.IsWhole) (arg10 : Memref sig .tc .vmem S512x128 .fp8e4m3) (harg10 : arg10.IsWhole)
    (arg11 : Memref sig .tc .vmem S2048x3072 .f32) (harg11 : arg11.IsWhole) (arg12 : Memref sig .tc .vmem S1024x3072 .bf16) (harg12 : arg12.IsWhole)
    (arg13 : Memref sig .tc .vmem S512x1024 .bf16) (harg13 : arg13.IsWhole)
    (h23 : k0_cond2 i = 1#1 ↔ ¬ k0_cond3 i = 1#1) (h24 : k0_cond2 i = 1#1 → ¬ k0_cond4 i = 1#1)
    (x2 : Vec F S1x2 .f32) (x3 : Vec F S512x1024 .bf16) (x4 : Vec F S512x1024 .i32) (x5 : Vec F S512x128 .bf16)
    (x6 : Vec F S1024x1440 .i8) (x7 : Vec F S1024x180 .fp8e4m3)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13) K := by
  simp only [cc0_main_eq_skeleton]; unfold cc0_main_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  by_cases hc1 : k0_cond1 i = 1#1 <;> by_cases hc3 : k0_cond3 i = 1#1 <;> by_cases hc4 : k0_cond4 i = 1#1
  all_goals first
    | exact absurd hc4 (h24 (h23.mpr hc3))
    | (first
        | have hc2 : k0_cond2 i = 1#1 := h23.mpr hc3
        | have hc2 : ¬ k0_cond2 i = 1#1 := fun h => (h23.mp h) hc3
       sl_exec (disch := first | sl_exact hc1 | sl_exact hc2 | sl_exact hc3 | sl_exact hc4)
       sl_step
       iapply Hk
       isplitl [H2]
       · iexists _; isplitr; swap; · iexact H2
         ipureintro; exact hf2
       isplitl [H3]
       · iexists _; isplitr; swap; · iexact H3
         ipureintro; exact hf3
       isplitl [H4]
       · iexists _; isplitr; swap; · iexact H4
         ipureintro; exact hf4
       isplitl [H5]
       · iexists _; isplitr; swap; · iexact H5
         ipureintro; exact hf5
       isplitl [H6]
       · iexists _; isplitr; swap; · iexact H6
         ipureintro; exact hf6
       isplitl [H7]
       · iexists _; isplitr; swap; · iexact H7
         ipureintro; exact hf7
       isplitl [H8]
       · iexists _, _; isplitr; swap; · iexact H8
         ipureintro; rfl
       isplitl [H9]
       · iexists _, _; isplitr; swap; · iexact H9
         ipureintro; rfl
       isplitl [H10]
       · iexists _, _; isplitr; swap; · iexact H10
         ipureintro; rfl
       isplitl [H11]
       · iexists _, _; isplitr; swap; · iexact H11
         ipureintro; rfl
       isplitl [H12]
       · iexists _, _; isplitr; swap; · iexact H12
         ipureintro; rfl
       iexists _, _; isplitr; swap; · iexact H13
       ipureintro; rfl)

end Cert.Kernel.Gen

end
-- ==== Proof.KernelFrame.lean ====
/- The frame of the kernel: every run of its program ends, leaves its six arguments as they were and all semaphore counters
   at zero. Nothing is said of the results. -/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's third condition (first grid coordinate positive) is the negation of its second. -/
theorem cond23 : ∀ t : Fin grid0.N, (k0_cond2 (grid0.coords t) = 1#1 ↔ ¬ k0_cond3 (grid0.coords t) = 1#1) := by decide +kernel

/-- The first reduction step is not the last. -/
theorem cond24 : ∀ t : Fin grid0.N, (k0_cond2 (grid0.coords t) = 1#1 → ¬ k0_cond4 (grid0.coords t) = 1#1) := by decide +kernel

abbrev ms0_0 (t : Fin cfg0.N) : Memref sig .tc .smem S1x2 .f32 := win0_0.stage (cfg0.slots t 0)
abbrev ms0_1 (t : Fin cfg0.N) : Memref sig .tc .vmem S512x1024 .bf16 := win0_1.stage (cfg0.slots t 1)
abbrev ms0_2 (t : Fin cfg0.N) : Memref sig .tc .vmem S512x1024 .i32 := win0_2.stage (cfg0.slots t 2)
abbrev ms0_3 (t : Fin cfg0.N) : Memref sig .tc .vmem S512x128 .bf16 := win0_3.stage (cfg0.slots t 3)
abbrev ms0_4 (t : Fin cfg0.N) : Memref sig .tc .vmem S1024x1440 .i8 := win0_4.stage (cfg0.slots t 4)
abbrev ms0_5 (t : Fin cfg0.N) : Memref sig .tc .vmem S1024x180 .fp8e4m3 := win0_5.stage (cfg0.slots t 5)
abbrev ms0_6 (t : Fin cfg0.N) : Memref sig .tc .vmem S512x2880 .bf16 := win0_6.stage (cfg0.slots t 6)
abbrev ms0_7 (t : Fin cfg0.N) : Memref sig .tc .vmem S512x512 .i8 := win0_7.stage (cfg0.slots t 7)
abbrev ms0_8 (t : Fin cfg0.N) : Memref sig .tc .vmem S512x128 .fp8e4m3 := win0_8.stage (cfg0.slots t 8)
abbrev scM0_0 : Memref sig .tc .vmem S2048x3072 .f32 := Memref.whole cc0_scratch0
abbrev scM0_1 : Memref sig .tc .vmem S1024x3072 .bf16 := Memref.whole cc0_scratch1
abbrev scM0_2 : Memref sig .tc .vmem S512x1024 .bf16 := Memref.whole cc0_scratch2

/-- The invariant between grid points: the three scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The three output windows are forgotten. -/
def forgets0 : Fin 9 → Bool := fun w => w.val == 6 || w.val == 7 || w.val == 8

/-- The pipeline's proof data: each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6, H7, H8⟩
  iapply (body_run c (grid0.coords t) _ _ _ _ _ _ _ _ _ _ _ _ _ _ _ _ _ _ _ _ _ _ _ _ (cond23 t) (cond24 t)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs' arrays unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the six arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨
      (Pipeline.RDat.FramePost.arr_in hh.1 c 0 rfl).trans ((A_eq m c 0).trans (V_main_arg0 m c)),
      (Pipeline.RDat.FramePost.arr_in hh.1 c 1 rfl).trans ((A_eq m c 1).trans (V_main_arg1 m c)),
      (Pipeline.RDat.FramePost.arr_in hh.1 c 2 rfl).trans ((A_eq m c 2).trans (V_main_arg2 m c)),
      (Pipeline.RDat.FramePost.arr_in hh.1 c 3 rfl).trans ((A_eq m c 3).trans (V_main_arg3 m c)),
      (Pipeline.RDat.FramePost.arr_in hh.1 c 4 rfl).trans ((A_eq m c 4).trans (V_main_arg4 m c)),
      (Pipeline.RDat.FramePost.arr_in hh.1 c 5 rfl).trans ((A_eq m c 5).trans (V_main_arg5 m c))⟩, hh.2⟩) (run_main_quiescent m ρ)

end Cert.Kernel.Gen

end
-- ==== Proof.KernelIdealBody.lean ====
/- One run of the kernel's body, at any grid point: from the staged blocks and the three scratch buffers at any
   contents to the same blocks and some contents. Nothing is said of what is computed here. -/
module

public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body keeps the six input blocks and leaves some contents in the three outputs and the three scratch buffers. The
    two conditions on the first grid coordinate exclude each other. -/
theorem body_run (c : Dev nD) (i : grid0.Coords) (arg2 : Memref sig .tc .smem S1x2 .f32) (harg2 : arg2.IsWhole)
    (arg3 : Memref sig .tc .vmem S512x1024 .bf16) (harg3 : arg3.IsWhole) (arg4 : Memref sig .tc .vmem S512x1024 .i32) (harg4 : arg4.IsWhole)
    (arg5 : Memref sig .tc .vmem S512x128 .bf16) (harg5 : arg5.IsWhole) (arg6 : Memref sig .tc .vmem S1024x1440 .i8) (harg6 : arg6.IsWhole)
    (arg7 : Memref sig .tc .vmem S1024x180 .fp8e4m3) (harg7 : arg7.IsWhole) (arg8 : Memref sig .tc .vmem S512x2880 .bf16) (harg8 : arg8.IsWhole)
    (arg9 : Memref sig .tc .vmem S512x512 .i8) (harg9 : arg9.IsWhole) (arg10 : Memref sig .tc .vmem S512x128 .fp8e4m3) (harg10 : arg10.IsWhole)
    (arg11 : Memref sig .tc .vmem S2048x3072 .f32) (harg11 : arg11.IsWhole) (arg12 : Memref sig .tc .vmem S1024x3072 .bf16) (harg12 : arg12.IsWhole)
    (arg13 : Memref sig .tc .vmem S512x1024 .bf16) (harg13 : arg13.IsWhole)
    (h23 : k0_cond2 i = 1#1 ↔ ¬ k0_cond3 i = 1#1) (h24 : k0_cond2 i = 1#1 → ¬ k0_cond4 i = 1#1)
    (x2 : Vec F S1x2 .f32) (x3 : Vec F S512x1024 .bf16) (x4 : Vec F S512x1024 .i32) (x5 : Vec F S512x128 .bf16)
    (x6 : Vec F S1024x1440 .i8) (x7 : Vec F S1024x180 .fp8e4m3)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13) K := by
  simp only [cc0_main_eq_skeleton]; unfold cc0_main_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  by_cases hc1 : k0_cond1 i = 1#1 <;> by_cases hc3 : k0_cond3 i = 1#1 <;> by_cases hc4 : k0_cond4 i = 1#1
  all_goals first
    | exact absurd hc4 (h24 (h23.mpr hc3))
    | (first
        | have hc2 : k0_cond2 i = 1#1 := h23.mpr hc3
        | have hc2 : ¬ k0_cond2 i = 1#1 := fun h => (h23.mp h) hc3
       sl_exec (disch := first | sl_exact hc1 | sl_exact hc2 | sl_exact hc3 | sl_exact hc4)
       sl_step
       iapply Hk
       isplitl [H2]
       · iexists _; isplitr; swap; · iexact H2
         ipureintro; exact hf2
       isplitl [H3]
       · iexists _; isplitr; swap; · iexact H3
         ipureintro; exact hf3
       isplitl [H4]
       · iexists _; isplitr; swap; · iexact H4
         ipureintro; exact hf4
       isplitl [H5]
       · iexists _; isplitr; swap; · iexact H5
         ipureintro; exact hf5
       isplitl [H6]
       · iexists _; isplitr; swap; · iexact H6
         ipureintro; exact hf6
       isplitl [H7]
       · iexists _; isplitr; swap; · iexact H7
         ipureintro; exact hf7
       isplitl [H8]
       · iexists _, _; isplitr; swap; · iexact H8
         ipureintro; rfl
       isplitl [H9]
       · iexists _, _; isplitr; swap; · iexact H9
         ipureintro; rfl
       isplitl [H10]
       · iexists _, _; isplitr; swap; · iexact H10
         ipureintro; rfl
       isplitl [H11]
       · iexists _, _; isplitr; swap; · iexact H11
         ipureintro; rfl
       isplitl [H12]
       · iexists _, _; isplitr; swap; · iexact H12
         ipureintro; rfl
       iexists _, _; isplitr; swap; · iexact H13
       ipureintro; rfl)

end Cert.KernelIdeal.Gen

end
-- ==== Proof.KernelIdealFrame.lean ====
/- The frame of the kernel: every run of its program ends, leaves its six arguments as they were and all semaphore counters
   at zero. Nothing is said of the results. -/
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's third condition (first grid coordinate positive) is the negation of its second. -/
theorem cond23 : ∀ t : Fin grid0.N, (k0_cond2 (grid0.coords t) = 1#1 ↔ ¬ k0_cond3 (grid0.coords t) = 1#1) := by decide +kernel

/-- The first reduction step is not the last. -/
theorem cond24 : ∀ t : Fin grid0.N, (k0_cond2 (grid0.coords t) = 1#1 → ¬ k0_cond4 (grid0.coords t) = 1#1) := by decide +kernel

abbrev ms0_0 (t : Fin cfg0.N) : Memref sig .tc .smem S1x2 .f32 := win0_0.stage (cfg0.slots t 0)
abbrev ms0_1 (t : Fin cfg0.N) : Memref sig .tc .vmem S512x1024 .bf16 := win0_1.stage (cfg0.slots t 1)
abbrev ms0_2 (t : Fin cfg0.N) : Memref sig .tc .vmem S512x1024 .i32 := win0_2.stage (cfg0.slots t 2)
abbrev ms0_3 (t : Fin cfg0.N) : Memref sig .tc .vmem S512x128 .bf16 := win0_3.stage (cfg0.slots t 3)
abbrev ms0_4 (t : Fin cfg0.N) : Memref sig .tc .vmem S1024x1440 .i8 := win0_4.stage (cfg0.slots t 4)
abbrev ms0_5 (t : Fin cfg0.N) : Memref sig .tc .vmem S1024x180 .fp8e4m3 := win0_5.stage (cfg0.slots t 5)
abbrev ms0_6 (t : Fin cfg0.N) : Memref sig .tc .vmem S512x2880 .bf16 := win0_6.stage (cfg0.slots t 6)
abbrev ms0_7 (t : Fin cfg0.N) : Memref sig .tc .vmem S512x512 .i8 := win0_7.stage (cfg0.slots t 7)
abbrev ms0_8 (t : Fin cfg0.N) : Memref sig .tc .vmem S512x128 .fp8e4m3 := win0_8.stage (cfg0.slots t 8)
abbrev scM0_0 : Memref sig .tc .vmem S2048x3072 .f32 := Memref.whole cc0_scratch0
abbrev scM0_1 : Memref sig .tc .vmem S1024x3072 .bf16 := Memref.whole cc0_scratch1
abbrev scM0_2 : Memref sig .tc .vmem S512x1024 .bf16 := Memref.whole cc0_scratch2

/-- The invariant between grid points: the three scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The three output windows are forgotten. -/
def forgets0 : Fin 9 → Bool := fun w => w.val == 6 || w.val == 7 || w.val == 8

/-- The pipeline's proof data: each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6, H7, H8⟩
  iapply (body_run c (grid0.coords t) _ _ _ _ _ _ _ _ _ _ _ _ _ _ _ _ _ _ _ _ _ _ _ _ (cond23 t) (cond24 t)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs' arrays unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the six arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨
      (Pipeline.RDat.FramePost.arr_in hh.1 c 0 rfl).trans ((A_eq m c 0).trans (V_main_arg0 m c)),
      (Pipeline.RDat.FramePost.arr_in hh.1 c 1 rfl).trans ((A_eq m c 1).trans (V_main_arg1 m c)),
      (Pipeline.RDat.FramePost.arr_in hh.1 c 2 rfl).trans ((A_eq m c 2).trans (V_main_arg2 m c)),
      (Pipeline.RDat.FramePost.arr_in hh.1 c 3 rfl).trans ((A_eq m c 3).trans (V_main_arg3 m c)),
      (Pipeline.RDat.FramePost.arr_in hh.1 c 4 rfl).trans ((A_eq m c 4).trans (V_main_arg4 m c)),
      (Pipeline.RDat.FramePost.arr_in hh.1 c 5 rfl).trans ((A_eq m c 5).trans (V_main_arg5 m c))⟩, hh.2⟩) (run_main_quiescent m ρ)

end Cert.KernelIdeal.Gen

end
-- ==== Proof.Bytes.lean ====
module
public import proofs.«01_k».proof.Proof.Gen.KernelIdeal.Loops
public import Idealize.ShloMosaic.PureOps.Ideal
public import Idealize.ShloMosaic.Lib.BitcastFour
public import Idealize.ShloMosaic.Lib.Pipeline.Value

/-! The kernel works on four-bit codes held four bytes to a 32-bit word. Here: a word read byte by byte, the
    bytewise operations on the words, and the lane index computations. -/

@[expose] public section
noncomputable section
namespace Cert.KernelIdeal.Gen
open Idealize.ShloMosaic Idealize.ShloMosaic.ValueIdx

/-- Byte `j` of a word. -/
def byteOf (w : BitVec 32) (j : Nat) : BitVec 8 := w.extractLsb' (8 * j) 8

theorem byteOf_getLsbD (w : BitVec 32) (j i : Nat) : (byteOf w j).getLsbD i = (decide (i < 8) && w.getLsbD (8 * j + i)) := by
  simp [byteOf, BitVec.getLsbD_extractLsb']

/-- Words read as bytes: row `a` is byte `a % 4` of word row `a / 4`. -/
theorem bitcast_32_8_ix2 {R r n : Nat} (W : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 W h (ix2 a l) = byteOf (W (ix2 p l)) (a.val % 4) := by
  apply BitVec.eq_of_getLsbD_eq
  intro i hi
  rw [bitcast_getLsbD W h _ i hi (by decide), byteOf_getLsbD]
  have hrow : Shape.row (⟨2, ![R, n]⟩ : Shape) (ix2 a l) = a.val := rfl
  have e1 : (Shape.row (⟨2, ![R, n]⟩ : Shape) (ix2 a l) * 8 + i) / 32 = p.val := by rw [hrow]; omega
  have e2 : (Shape.row (⟨2, ![R, n]⟩ : Shape) (ix2 a l) * 8 + i) % 32 = 8 * (a.val % 4) + i := by rw [hrow]; omega
  rw [e2]
  simp only [hi, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes packed into words: byte `j` of word row `a` is row `4a + j`. -/
theorem byteOf_bitcast_8_32_ix2 {R r n : Nat} (x : (⟨2, ![R, n]⟩ : Shape).Idx → BitVec 8)
    (h : (⟨2, ![R, n]⟩ : Shape).Bitcasts 8 ⟨2, ![r, n]⟩ 32) (a : Fin r) (l : Fin n) (j : Nat) (hj : j < 4) (p : Fin R)
    (hp : p.val = 4 * a.val + j) :
    byteOf (bitcast ⟨2, ![r, n]⟩ 32 x h (ix2 a l)) j = x (ix2 p l) := by
  apply BitVec.eq_of_getLsbD_eq
  intro i hi
  rw [byteOf_getLsbD, bitcast_8_32_getLsbD_ix2 x h a l (8 * j + i) (by omega) p (by omega)]
  have : (8 * j + i) % 8 = i := by omega
  simp [hi, this]

/-- The low nibble's sign and magnitude bits, moved to where the eight-bit float holds them. -/
def loByte (b : BitVec 8) : BitVec 8 := ((b &&& 7#8) <<< 2) ||| ((b &&& 8#8) <<< 4)
/-- The high nibble's. -/
def hiByte (b : BitVec 8) : BitVec 8 := ((b &&& 112#8) >>> 2) ||| (b &&& 128#8)

def loWord (w : BitVec 32) : BitVec 32 := ((w &&& 117901063#32) <<< 2) ||| ((w &&& 134744072#32) <<< 4)
def hiWord (w : BitVec 32) : BitVec 32 := ((w &&& 1886417008#32) >>> 2) ||| (w &&& 2155905152#32)

theorem byteOf_loWord (w : BitVec 32) (j : Nat) (hj : j < 4) : byteOf (loWord w) j = loByte (byteOf w j) := by
  apply BitVec.eq_of_getLsbD_eq
  intro i hi
  interval_cases j <;> interval_cases i <;> simp [byteOf, loWord, loByte]

theorem byteOf_hiWord (w : BitVec 32) (j : Nat) (hj : j < 4) : byteOf (hiWord w) j = hiByte (byteOf w j) := by
  apply BitVec.eq_of_getLsbD_eq
  intro i hi
  interval_cases j <;> interval_cases i <;> simp [byteOf, hiWord, hiByte]

theorem byteOf_zero (j : Nat) : byteOf 0#32 j = 0#8 := by simp [byteOf]

end Cert.KernelIdeal.Gen
end
-- ==== Proof.Weights.lean ====
module
public import proofs.«01_k».proof.Proof.Bytes

/-! The weight decode: what the row loop of a point leaves in the decoded weight block, element by element. -/

@[expose] public section
set_option maxRecDepth 65536
noncomputable section
namespace Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-- The weight code byte at row `r`, byte column `c` of a block; zero past the block. -/
def wByte (x6 : S1024x1440.Idx → BitVec 8) (r c : Nat) : BitVec 8 :=
  if h : r < 1024 ∧ c < 1440 then x6 (ix2 ⟨r, h.1⟩ ⟨c, h.2⟩) else 0#8

/-- The weight scale times 64 at row `r`, scale column `c` of a block; zero past the block. -/
def wScale (x7 : S1024x180.Idx → EReal) (r c : Nat) : EReal :=
  if h : r < 1024 ∧ c < 180 then x7 (ix2 ⟨r, h.1⟩ ⟨c, h.2⟩) * (64 : ℝ) else 0

/-- One decoded weight: the block holds, tile by tile, the low nibbles of 128 byte columns and then the high ones. -/
def wElt (x6 : S1024x1440.Idx → BitVec 8) (x7 : S1024x180.Idx → EReal) (r c : Nat) : EReal :=
  let j := 128 * (c / 256) + c % 128
  Ideal.ofBits .fp8e4m3 (if c % 256 < 128 then loByte (wByte x6 r j) else hiByte (wByte x6 r j)) * wScale x7 r (j / 8)

section Ops
variable {F : FTy → Type} [FloatOps F]

/-- The quotient of a lane number by `q`, rounded down, as the printed text computes it, added to `c`. -/
def laneIdx {s : Shape} (q c : BitVec 32) (v : IVec s 32) : IVec s 32 :=
  addi (broadcast s c) (select (andi (cmpi .ne (subi (extui 32 (cmpi .sgt v (broadcast s 0#32)) natLt_1_32) (extui 32 (cmpi .slt v (broadcast s 0#32)) natLt_1_32)) (broadcast s (Scalar.subi (Scalar.extui (Scalar.cmpi .sgt q 0#32)) (Scalar.extui (Scalar.cmpi .slt q 0#32))))) (cmpi .ne (remsi v (broadcast s q)) (broadcast s 0#32))) (subi (divsi v (broadcast s q)) (broadcast s 1#32)) (divsi v (broadcast s q)))

/-- The lanes of `x` at an index vector, a negative index counted from the end. -/
def gather32 (x : FVec F S32x128 .f32) (v : IVec S32x128 32) : FVec F S32x128 .f32 :=
  dynamicGather 1 x (shapeCast S32x128 (shapeCast S32x128x1 (select (cmpi .slt v (broadcast S32x128 0#32)) (addi v (broadcast S32x128 128#32)) v) shapeCasts_S32x128_S32x128x1) shapeCasts_S32x128x1_S32x128)

def wLo (c : BitVec 32) (v57 : IVec S32x128 32) (sv : FVec F S32x128 .f32) (w : IVec S8x128 32) : FVec F S32x128 .bf16 :=
  shapeCast S32x128 (mulf (extf .bf16 (bitcastToFloat .fp8e4m3 (bitcast S32x128 8 (ori (shli (andi w (broadcast S8x128 117901063#32)) (broadcast S8x128 2#32)) (shli (andi w (broadcast S8x128 134744072#32)) (broadcast S8x128 4#32))) bitcasts_S8x128_w32_S32x128_w8)) bitsLt_fp8e4m3_bf16)
    (truncf .bf16 (gather32 sv (laneIdx 8#32 c v57)) bitsLt_bf16_f32)) shapeCasts_S32x128_S32x128

def wHi (c : BitVec 32) (v57 : IVec S32x128 32) (sv : FVec F S32x128 .f32) (w : IVec S8x128 32) : FVec F S32x128 .bf16 :=
  shapeCast S32x128 (mulf (extf .bf16 (bitcastToFloat .fp8e4m3 (bitcast S32x128 8 (ori (shrui (andi w (broadcast S8x128 1886417008#32)) (broadcast S8x128 2#32)) (andi w (broadcast S8x128 2155905152#32))) bitcasts_S8x128_w32_S32x128_w8)) bitsLt_fp8e4m3_bf16)
    (truncf .bf16 (gather32 sv (laneIdx 8#32 c v57)) bitsLt_bf16_f32)) shapeCasts_S32x128_S32x128

def wLastWords (w : IVec S32x32 8) : IVec S8x128 32 :=
  concatenate S8x128 1 [⟨S8x32, bitcast S8x32 32 w bitcasts_S32x32_w8_S8x32_w32⟩, ⟨S8x96, broadcast S8x96 0#32⟩] concatenates_S8x32_S8x96_S8x128_d1
end Ops

theorem laneIdx8 : ∀ (l : Fin 128) (t : Fin 8),
    (let v := laneIdx (s := ⟨0, ![]⟩) 8#32 (BitVec.ofNat 32 (16 * t.val)) (fun _ => BitVec.ofNat 32 l.val) ix0
     (Scalar.select (IntOp.cmpi .slt v 0#32) (IntOp.addi v 128#32) v).toNat % 128) = 16 * t.val + l.val / 8 := by
  decide +kernel

theorem gather32_apply (x : FVec Ideal S32x128 .f32) (v : IVec S32x128 32) (r : Fin 32) (l m : Fin 128)
    (h : (Scalar.select (IntOp.cmpi .slt (v (ix2 r l)) 0#32) (IntOp.addi (v (ix2 r l)) 128#32) (v (ix2 r l))).toNat % 128 = m.val) :
    gather32 x v (ix2 r l) = x (ix2 r m) := by
  unfold gather32
  rw [shapeCast_shapeCast]
  unfold dynamicGather
  congr 1
  funext b
  match b with
  | ⟨0, _⟩ => rfl
  | ⟨1, _⟩ => exact Fin.ext h

/-- The vector of lane numbers. -/
def lanes32 : IVec S32x128 32 := fun j => BitVec.ofNat 32 (j 1).val

theorem gather_lane8 (x : FVec Ideal S32x128 .f32) (t : Fin 8) (r : Fin 32) (l : Fin 128) :
    gather32 x (laneIdx 8#32 (BitVec.ofNat 32 (16 * t.val)) lanes32) (ix2 r l) = x (ix2 r ⟨16 * t.val + l.val / 8, by omega⟩) :=
  gather32_apply x _ r l _ (laneIdx8 l t)

theorem wLo_apply (t : Fin 8) (sv : FVec Ideal S32x128 .f32) (w : IVec S8x128 32) (r : Fin 32) (l : Fin 128) :
    wLo (BitVec.ofNat 32 (16 * t.val)) lanes32 sv w (ix2 r l)
      = Ideal.ofBits .fp8e4m3 (loByte (byteOf (w (ix2 ⟨r.val / 4, by omega⟩ l)) (r.val % 4))) * sv (ix2 r ⟨16 * t.val + l.val / 8, by omega⟩) := by
  unfold wLo
  rw [shapeCast_self, ← gather_lane8 sv t r l, ← byteOf_loWord _ _ (by omega)]
  exact congrArg (fun b => Ideal.ofBits .fp8e4m3 b * _) (bitcast_32_8_ix2 _ _ r l ⟨r.val / 4, by omega⟩ rfl)

theorem wHi_apply (t : Fin 8) (sv : FVec Ideal S32x128 .f32) (w : IVec S8x128 32) (r : Fin 32) (l : Fin 128) :
    wHi (BitVec.ofNat 32 (16 * t.val)) lanes32 sv w (ix2 r l)
      = Ideal.ofBits .fp8e4m3 (hiByte (byteOf (w (ix2 ⟨r.val / 4, by omega⟩ l)) (r.val % 4))) * sv (ix2 r ⟨16 * t.val + l.val / 8, by omega⟩) := by
  unfold wHi
  rw [shapeCast_self, ← gather_lane8 sv t r l, ← byteOf_hiWord _ _ (by omega)]
  exact congrArg (fun b => Ideal.ofBits .fp8e4m3 b * _) (bitcast_32_8_ix2 _ _ r l ⟨r.val / 4, by omega⟩ rfl)

section Pieces
variable (x6 : S1024x1440.Idx → BitVec 8) (x7 : S1024x180.Idx → EReal)

/-- A scale vector holds the scales of rows `32 k …` from scale column `128 u` on. -/
def ScalesAt (k u : Nat) (sv : FVec Ideal S32x128 .f32) : Prop :=
  ∀ (r : Fin 32) (l : Fin 128), sv (ix2 r l) = wScale x7 (32 * k + r.val) (128 * u + l.val)

/-- A word tile holds the code bytes of rows `32 k …` from byte column `128 t` on. -/
def WordsAt (k t : Nat) (w : IVec S8x128 32) : Prop :=
  ∀ (r : Fin 32) (l : Fin 128), byteOf (w (ix2 ⟨r.val / 4, by omega⟩ l)) (r.val % 4) = wByte x6 (32 * k + r.val) (128 * t + l.val)

theorem emb_unit2 {n0 n1 a b : Nat} (off : Fin 2 → Nat) (p q : Nat) (ho : off = ![p, q])
    (h : ∀ c, off c + ![a, b] c ≤ (⟨2, ![n0, n1]⟩ : Shape).size c) (r : Fin a) (l : Fin b) :
    (((Rect.unit (s := ⟨2, ![n0, n1]⟩) off ![a, b] h).emb (ix2 r l) 0).val = p + r.val) ∧
    (((Rect.unit (s := ⟨2, ![n0, n1]⟩) off ![a, b] h).emb (ix2 r l) 1).val = q + l.val) := by
  subst ho
  exact ⟨by show p + 1 * r.val = _; omega, by show q + 1 * l.val = _; omega⟩

theorem lo_piece (k t u : Nat) (v : Fin 8) (hu : 8 * u + v.val = t) (off : Fin 2 → Nat) (ho : off = ![32 * k, 256 * t])
    (h : ∀ c, off c + ![32, 128] c ≤ S1024x3072.size c)
    {sv : FVec Ideal S32x128 .f32} {w : IVec S8x128 32} (hs : ScalesAt x7 k u sv) (hw : WordsAt x6 k t w) (x : S32x128.Idx) :
    wLo (BitVec.ofNat 32 (16 * v.val)) lanes32 sv w x
      = (fun y : S1024x3072.Idx => wElt x6 x7 (y 0).val (y 1).val) ((Rect.unit (s := S1024x3072) off ![32, 128] h).emb x) := by
  obtain ⟨r, l, rfl⟩ : ∃ (r : Fin 32) (l : Fin 128), x = ix2 r l := ⟨x 0, x 1, eq_ix2 x⟩
  obtain ⟨e0, e1⟩ := emb_unit2 off _ _ ho h r l
  dsimp only
  rw [wLo_apply, hs, hw, e0, e1]
  unfold wElt
  have h1 : (256 * t + l.val) / 256 = t := by omega
  have h2 : (256 * t + l.val) % 128 = l.val := by omega
  have h3 : (256 * t + l.val) % 256 = l.val := by omega
  simp only [h1, h2, h3, l.isLt, if_true]
  congr 2
  omega

theorem hi_piece (k t u : Nat) (v : Fin 8) (hu : 8 * u + v.val = t) (off : Fin 2 → Nat) (ho : off = ![32 * k, 256 * t + 128])
    (h : ∀ c, off c + ![32, 128] c ≤ S1024x3072.size c)
    {sv : FVec Ideal S32x128 .f32} {w : IVec S8x128 32} (hs : ScalesAt x7 k u sv) (hw : WordsAt x6 k t w) (x : S32x128.Idx) :
    wHi (BitVec.ofNat 32 (16 * v.val)) lanes32 sv w x
      = (fun y : S1024x3072.Idx => wElt x6 x7 (y 0).val (y 1).val) ((Rect.unit (s := S1024x3072) off ![32, 128] h).emb x) := by
  obtain ⟨r, l, rfl⟩ : ∃ (r : Fin 32) (l : Fin 128), x = ix2 r l := ⟨x 0, x 1, eq_ix2 x⟩
  obtain ⟨e0, e1⟩ := emb_unit2 off _ _ ho h r l
  dsimp only
  rw [wHi_apply, hs, hw, e0, e1]
  unfold wElt
  have h1 : (256 * t + 128 + l.val) / 256 = t := by omega
  have h2 : (256 * t + 128 + l.val) % 128 = l.val := by omega
  have h3 : ¬ (256 * t + 128 + l.val) % 256 < 128 := by omega
  simp only [h1, h2, h3, if_false]
  congr 2
  omega

/-- A tile of whole words loaded from the code block. -/
theorem words_full (m : Memref sig .tc .vmem S1024x1440 .i8) (X : m.view.ty.Contents (Elt Ideal)) (hx : m.view.read (Elt Ideal) X = x6)
    (k t : Nat) (hk : k < 32) (ht : t < 11) (off : Fin 2 → Nat) (ho : off = ![32 * k, 128 * t]) (h : ∀ c, off c + ![32, 128] c ≤ S1024x1440.size c) :
    WordsAt x6 k t (bitcast S8x128 32 (m.view.readAt (Elt Ideal) (Rect.unit (s := S1024x1440) off ![32, 128] h).toLoadRect X) bitcasts_S32x128_w8_S8x128_w32) := by
  intro r l
  obtain ⟨e0, e1⟩ := emb_unit2 off _ _ ho h r l
  rw [byteOf_bitcast_8_32_ix2 _ _ _ _ _ (by omega) r (by show r.val = 4 * (r.val / 4) + r.val % 4; omega), View.readAt_apply, hx]
  unfold wByte
  rw [dif_pos ⟨by omega, by omega⟩]
  congr 1
  funext c
  match c with
  | ⟨0, _⟩ => exact Fin.ext e0
  | ⟨1, _⟩ => exact Fin.ext e1

/-- The last, narrow tile: its words are filled up with zeros. -/
theorem words_last (m : Memref sig .tc .vmem S1024x1440 .i8) (X : m.view.ty.Contents (Elt Ideal)) (hx : m.view.read (Elt Ideal) X = x6)
    (k : Nat) (hk : k < 32) (off : Fin 2 → Nat) (ho : off = ![32 * k, 1408]) (h : ∀ c, off c + ![32, 32] c ≤ S1024x1440.size c) :
    WordsAt x6 k 11 (wLastWords (m.view.readAt (Elt Ideal) (Rect.unit (s := S1024x1440) off ![32, 32] h).toLoadRect X)) := by
  intro r l
  unfold wLastWords
  by_cases hl : l.val < 32
  · obtain ⟨e0, e1⟩ := emb_unit2 off _ _ ho h r ⟨l.val, hl⟩
    rw [concatenate_pair_apply_left (t := S8x128) (s₁ := S8x32) (s₂ := S8x96) 1 _ _ _ (ix2 ⟨r.val / 4, by omega⟩ l) rfl (ix2 ⟨r.val / 4, by omega⟩ ⟨l.val, hl⟩)
      (fun b => match b with | ⟨0, _⟩ => rfl | ⟨1, _⟩ => rfl),
      byteOf_bitcast_8_32_ix2 _ _ _ _ _ (by omega) r (by show r.val = 4 * (r.val / 4) + r.val % 4; omega), View.readAt_apply, hx]
    unfold wByte
    rw [dif_pos ⟨by omega, by omega⟩]
    congr 1
    funext c
    match c with
    | ⟨0, _⟩ => exact Fin.ext e0
    | ⟨1, _⟩ => exact Fin.ext e1
  · rw [concatenate_pair_apply_right (t := S8x128) (s₁ := S8x32) (s₂ := S8x96) 1 _ _ _ (ix2 ⟨r.val / 4, by omega⟩ l) rfl rfl (ix2 ⟨r.val / 4, by omega⟩ ⟨l.val - 32, by omega⟩)
      (fun b => match b with | ⟨0, _⟩ => fun _ => rfl | ⟨1, _⟩ => fun h => absurd rfl h) (by show l.val - 32 + 32 = l.val; omega)]
    unfold wByte
    rw [dif_neg (by omega)]
    exact byteOf_zero _

theorem bf16_64 : Ideal.ofBits .bf16 0x4280#16 = ((64 : ℝ) : EReal) := by
  simp [Ideal.ofBits, Ideal.ieee, -EReal.coe_mul]; norm_num

theorem scales_lo (m : Memref sig .tc .vmem S1024x180 .fp8e4m3) (X : m.view.ty.Contents (Elt Ideal)) (hx : m.view.read (Elt Ideal) X = x7)
    (k : Nat) (hk : k < 32) (off : Fin 2 → Nat) (ho : off = ![32 * k, 0]) (h : ∀ c, off c + ![32, 180] c ≤ S1024x180.size c) :
    ScalesAt x7 k 0 (k0_pay7 (F := Ideal) (m.view.readAt (Elt Ideal) (Rect.unit (s := S1024x180) off ![32, 180] h).toLoadRect X)) := by
  intro r l
  obtain ⟨e0, e1⟩ := emb_unit2 off _ _ ho h r ⟨l.val, by omega⟩
  unfold wScale
  rw [dif_pos ⟨by omega, by omega⟩, ← hx, ← bf16_64]
  refine congrArg (· * _) (congrArg (m.view.read (Elt Ideal) X) ?_)
  funext c
  match c with
  | ⟨0, _⟩ => exact Fin.ext ((congrArg (fun z => off 0 + 1 * z) (Nat.zero_add _)).trans e0)
  | ⟨1, _⟩ => exact Fin.ext (by subst ho; show 0 + 1 * (0 + l.val) = 128 * 0 + l.val; omega)

theorem scales_hi (m : Memref sig .tc .vmem S1024x180 .fp8e4m3) (X : m.view.ty.Contents (Elt Ideal)) (hx : m.view.read (Elt Ideal) X = x7)
    (k : Nat) (hk : k < 32) (off : Fin 2 → Nat) (ho : off = ![32 * k, 0]) (h : ∀ c, off c + ![32, 180] c ≤ S1024x180.size c) :
    ScalesAt x7 k 1 (k0_pay8 (F := Ideal) (m.view.readAt (Elt Ideal) (Rect.unit (s := S1024x180) off ![32, 180] h).toLoadRect X)) := by
  intro r l
  unfold wScale k0_pay8
  by_cases hl : l.val < 52
  · rw [dif_pos ⟨by omega, by omega⟩, ← hx, ← bf16_64]
    refine (concatenate_pair_apply_left (t := S32x128) (s₁ := S32x52) (s₂ := S32x76) 1 _ _ _ (ix2 r l) rfl (ix2 r ⟨l.val, hl⟩)
      (fun b => match b with | ⟨0, _⟩ => rfl | ⟨1, _⟩ => rfl)).trans ?_
    refine congrArg (· * _) (congrArg (m.view.read (Elt Ideal) X) ?_)
    funext c
    match c with
    | ⟨0, _⟩ => exact Fin.ext (by subst ho; show 32 * k + 1 * (0 + r.val) = 32 * k + r.val; omega)
    | ⟨1, _⟩ => exact Fin.ext (by subst ho; show 0 + 1 * (128 + l.val) = 128 * 1 + l.val; omega)
  · rw [dif_neg (by omega)]
    refine (concatenate_pair_apply_right (t := S32x128) (s₁ := S32x52) (s₂ := S32x76) 1 _ _ _ (ix2 r l) rfl rfl (ix2 r ⟨l.val - 52, by omega⟩)
      (fun b => match b with | ⟨0, _⟩ => fun _ => rfl | ⟨1, _⟩ => fun h => absurd rfl h) (by show l.val - 52 + 52 = l.val; omega)).trans ?_
    show (((0#32 : BitVec 32).toInt : ℝ) : EReal) = 0
    simp

end Pieces

/-- Every piece a trip of the decode loop stores holds decoded weights. -/
theorem trip_t1_pieces (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (h1 : k0_cond1 i = 1#1)
    (X6 : BufTy.Contents (Elt Ideal) arg6.view.ty) (X7 : BufTy.Contents (Elt Ideal) arg7.view.ty) (k : Fin k0_t1_loop.trips)
    (x6 : S1024x1440.Idx → BitVec 8) (x7 : S1024x180.Idx → EReal)
    (hx6 : arg6.view.read (Elt Ideal) X6 = x6) (hx7 : arg7.view.read (Elt Ideal) X7 = x7) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 k).1, ∀ x : p.1.shape.Idx,
      p.2 x = (fun y : S1024x3072.Idx => wElt x6 x7 (y 0).val (y 1).val) (p.1.emb x) := by
  have hk : k.val < 32 := Nat.lt_of_lt_of_le k.isLt k0_t1_abs.2.1
  have sL := scales_lo x7 arg7 X7 hx7 k hk _ (k0_off1_eq k) (k0_off1_inb i k h1)
  have sH := scales_hi x7 arg7 X7 hx7 k hk _ (k0_off1_eq k) (k0_off1_inb i k h1)
  unfold trip_k0_t1
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  · exact hi_piece x6 x7 k 11 1 3 rfl _ (k0_off37_eq k) (k0_off37_inb i k h1) sH (words_last x6 arg6 X6 hx6 k hk _ (k0_off35_eq k) (k0_off35_inb i k h1))
  · exact lo_piece x6 x7 k 11 1 3 rfl _ (k0_off36_eq k) (k0_off36_inb i k h1) sH (words_last x6 arg6 X6 hx6 k hk _ (k0_off35_eq k) (k0_off35_inb i k h1))
  · exact hi_piece x6 x7 k 10 1 2 rfl _ (k0_off34_eq k) (k0_off34_inb i k h1) sH (words_full x6 arg6 X6 hx6 k 10 hk (by decide) _ (k0_off32_eq k) (k0_off32_inb i k h1))
  · exact lo_piece x6 x7 k 10 1 2 rfl _ (k0_off33_eq k) (k0_off33_inb i k h1) sH (words_full x6 arg6 X6 hx6 k 10 hk (by decide) _ (k0_off32_eq k) (k0_off32_inb i k h1))
  · exact hi_piece x6 x7 k 9 1 1 rfl _ (k0_off31_eq k) (k0_off31_inb i k h1) sH (words_full x6 arg6 X6 hx6 k 9 hk (by decide) _ (k0_off29_eq k) (k0_off29_inb i k h1))
  · exact lo_piece x6 x7 k 9 1 1 rfl _ (k0_off30_eq k) (k0_off30_inb i k h1) sH (words_full x6 arg6 X6 hx6 k 9 hk (by decide) _ (k0_off29_eq k) (k0_off29_inb i k h1))
  · exact hi_piece x6 x7 k 8 1 0 rfl _ (k0_off28_eq k) (k0_off28_inb i k h1) sH (words_full x6 arg6 X6 hx6 k 8 hk (by decide) _ (k0_off26_eq k) (k0_off26_inb i k h1))
  · exact lo_piece x6 x7 k 8 1 0 rfl _ (k0_off27_eq k) (k0_off27_inb i k h1) sH (words_full x6 arg6 X6 hx6 k 8 hk (by decide) _ (k0_off26_eq k) (k0_off26_inb i k h1))
  · exact hi_piece x6 x7 k 7 0 7 rfl _ (k0_off25_eq k) (k0_off25_inb i k h1) sL (words_full x6 arg6 X6 hx6 k 7 hk (by decide) _ (k0_off23_eq k) (k0_off23_inb i k h1))
  · exact lo_piece x6 x7 k 7 0 7 rfl _ (k0_off24_eq k) (k0_off24_inb i k h1) sL (words_full x6 arg6 X6 hx6 k 7 hk (by decide) _ (k0_off23_eq k) (k0_off23_inb i k h1))
  · exact hi_piece x6 x7 k 6 0 6 rfl _ (k0_off22_eq k) (k0_off22_inb i k h1) sL (words_full x6 arg6 X6 hx6 k 6 hk (by decide) _ (k0_off20_eq k) (k0_off20_inb i k h1))
  · exact lo_piece x6 x7 k 6 0 6 rfl _ (k0_off21_eq k) (k0_off21_inb i k h1) sL (words_full x6 arg6 X6 hx6 k 6 hk (by decide) _ (k0_off20_eq k) (k0_off20_inb i k h1))
  · exact hi_piece x6 x7 k 5 0 5 rfl _ (k0_off19_eq k) (k0_off19_inb i k h1) sL (words_full x6 arg6 X6 hx6 k 5 hk (by decide) _ (k0_off17_eq k) (k0_off17_inb i k h1))
  · exact lo_piece x6 x7 k 5 0 5 rfl _ (k0_off18_eq k) (k0_off18_inb i k h1) sL (words_full x6 arg6 X6 hx6 k 5 hk (by decide) _ (k0_off17_eq k) (k0_off17_inb i k h1))
  · exact hi_piece x6 x7 k 4 0 4 rfl _ (k0_off16_eq k) (k0_off16_inb i k h1) sL (words_full x6 arg6 X6 hx6 k 4 hk (by decide) _ (k0_off14_eq k) (k0_off14_inb i k h1))
  · exact lo_piece x6 x7 k 4 0 4 rfl _ (k0_off15_eq k) (k0_off15_inb i k h1) sL (words_full x6 arg6 X6 hx6 k 4 hk (by decide) _ (k0_off14_eq k) (k0_off14_inb i k h1))
  · exact hi_piece x6 x7 k 3 0 3 rfl _ (k0_off13_eq k) (k0_off13_inb i k h1) sL (words_full x6 arg6 X6 hx6 k 3 hk (by decide) _ (k0_off11_eq k) (k0_off11_inb i k h1))
  · exact lo_piece x6 x7 k 3 0 3 rfl _ (k0_off12_eq k) (k0_off12_inb i k h1) sL (words_full x6 arg6 X6 hx6 k 3 hk (by decide) _ (k0_off11_eq k) (k0_off11_inb i k h1))
  · exact hi_piece x6 x7 k 2 0 2 rfl _ (k0_off10_eq k) (k0_off10_inb i k h1) sL (words_full x6 arg6 X6 hx6 k 2 hk (by decide) _ (k0_off8_eq k) (k0_off8_inb i k h1))
  · exact lo_piece x6 x7 k 2 0 2 rfl _ (k0_off9_eq k) (k0_off9_inb i k h1) sL (words_full x6 arg6 X6 hx6 k 2 hk (by decide) _ (k0_off8_eq k) (k0_off8_inb i k h1))
  · exact hi_piece x6 x7 k 1 0 1 rfl _ (k0_off7_eq k) (k0_off7_inb i k h1) sL (words_full x6 arg6 X6 hx6 k 1 hk (by decide) _ (k0_off5_eq k) (k0_off5_inb i k h1))
  · exact lo_piece x6 x7 k 1 0 1 rfl _ (k0_off6_eq k) (k0_off6_inb i k h1) sL (words_full x6 arg6 X6 hx6 k 1 hk (by decide) _ (k0_off5_eq k) (k0_off5_inb i k h1))
  · exact hi_piece x6 x7 k 0 0 0 rfl _ (k0_off4_eq k) (k0_off4_inb i k h1) sL (words_full x6 arg6 X6 hx6 k 0 hk (by decide) _ (k0_off2_eq k) (k0_off2_inb i k h1))
  · exact lo_piece x6 x7 k 0 0 0 rfl _ (k0_off3_eq k) (k0_off3_inb i k h1) sL (words_full x6 arg6 X6 hx6 k 0 hk (by decide) _ (k0_off2_eq k) (k0_off2_inb i k h1))

/-- A place outside the first piece has to be found among the others. -/
theorem cover_cons {F : EltTy → Type} {n0 n1 a b : Nat} {e : EltTy} {off : Fin 2 → Nat} (p q : Nat) (ho : off = ![p, q])
    {h : ∀ c, off c + ![a, b] c ≤ (⟨2, ![n0, n1]⟩ : Shape).size c} {w} {L : List (View.Piece F ⟨2, ![n0, n1]⟩ e)} {y : (⟨2, ![n0, n1]⟩ : Shape).Idx}
    (hr : ¬ (p ≤ (y 0).val ∧ (y 0).val < p + a ∧ q ≤ (y 1).val ∧ (y 1).val < q + b) → ∃ P ∈ L, y ∈ P.1.set) :
    ∃ P ∈ (⟨Rect.unit (s := ⟨2, ![n0, n1]⟩) off ![a, b] h, w⟩ : View.Piece F ⟨2, ![n0, n1]⟩ e) :: L, y ∈ P.1.set := by
  by_cases hy : p ≤ (y 0).val ∧ (y 0).val < p + a ∧ q ≤ (y 1).val ∧ (y 1).val < q + b
  · refine ⟨_, List.mem_cons_self, (Rect.mem_set_unit (inb := h)).2 ?_⟩
    subst ho
    intro c
    match c with
    | ⟨0, _⟩ => exact ⟨hy.1, hy.2.1⟩
    | ⟨1, _⟩ => exact hy.2.2
  · obtain ⟨P, hP, hm⟩ := hr hy
    exact ⟨P, List.mem_cons_of_mem _ hP, hm⟩

theorem trip_t1_cover (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (h1 : k0_cond1 i = 1#1)
    (X6 : BufTy.Contents (Elt Ideal) arg6.view.ty) (X7 : BufTy.Contents (Elt Ideal) arg7.view.ty) (k : Fin k0_t1_loop.trips)
    (y : S1024x3072.Idx) (h0 : 32 * k.val ≤ (y 0).val) (h0' : (y 0).val < 32 * k.val + 32) :
    ∃ P ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 k).1, y ∈ P.1.set := by
  unfold trip_k0_t1
  dsimp only
  refine cover_cons (32 * k.val) 2944 (k0_off37_eq k) fun _ => ?_
  refine cover_cons (32 * k.val) 2816 (k0_off36_eq k) fun _ => ?_
  refine cover_cons (32 * k.val) 2688 (k0_off34_eq k) fun _ => ?_
  refine cover_cons (32 * k.val) 2560 (k0_off33_eq k) fun _ => ?_
  refine cover_cons (32 * k.val) 2432 (k0_off31_eq k) fun _ => ?_
  refine cover_cons (32 * k.val) 2304 (k0_off30_eq k) fun _ => ?_
  refine cover_cons (32 * k.val) 2176 (k0_off28_eq k) fun _ => ?_
  refine cover_cons (32 * k.val) 2048 (k0_off27_eq k) fun _ => ?_
  refine cover_cons (32 * k.val) 1920 (k0_off25_eq k) fun _ => ?_
  refine cover_cons (32 * k.val) 1792 (k0_off24_eq k) fun _ => ?_
  refine cover_cons (32 * k.val) 1664 (k0_off22_eq k) fun _ => ?_
  refine cover_cons (32 * k.val) 1536 (k0_off21_eq k) fun _ => ?_
  refine cover_cons (32 * k.val) 1408 (k0_off19_eq k) fun _ => ?_
  refine cover_cons (32 * k.val) 1280 (k0_off18_eq k) fun _ => ?_
  refine cover_cons (32 * k.val) 1152 (k0_off16_eq k) fun _ => ?_
  refine cover_cons (32 * k.val) 1024 (k0_off15_eq k) fun _ => ?_
  refine cover_cons (32 * k.val) 896 (k0_off13_eq k) fun _ => ?_
  refine cover_cons (32 * k.val) 768 (k0_off12_eq k) fun _ => ?_
  refine cover_cons (32 * k.val) 640 (k0_off10_eq k) fun _ => ?_
  refine cover_cons (32 * k.val) 512 (k0_off9_eq k) fun _ => ?_
  refine cover_cons (32 * k.val) 384 (k0_off7_eq k) fun _ => ?_
  refine cover_cons (32 * k.val) 256 (k0_off6_eq k) fun _ => ?_
  refine cover_cons (32 * k.val) 128 (k0_off4_eq k) fun _ => ?_
  refine cover_cons (32 * k.val) 0 (k0_off3_eq k) fun _ => ?_
  have : (y 1).val < 3072 := idx2_lt1 y
  omega

/-- After the decode loop the block holds the decoded weights, whatever it held before. -/
theorem t1_read (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (h1 : k0_cond1 i = 1#1)
    (X6 : BufTy.Contents (Elt Ideal) arg6.view.ty) (X7 : BufTy.Contents (Elt Ideal) arg7.view.ty)
    (x6 : S1024x1440.Idx → BitVec 8) (x7 : S1024x180.Idx → EReal)
    (hx6 : arg6.view.read (Elt Ideal) X6 = x6) (hx7 : arg7.view.read (Elt Ideal) X7 = x7) (f : BufTy.Contents (Elt Ideal) arg12.view.ty) :
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 k0_t1_loop.trips))
      = fun y => wElt x6 x7 (y 0).val (y 1).val := by
  have main : ∀ n, n ≤ k0_t1_loop.trips →
      (∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 n, ∀ x : p.1.shape.Idx,
        p.2 x = (fun y : S1024x3072.Idx => wElt x6 x7 (y 0).val (y 1).val) (p.1.emb x)) ∧
      (∀ y : S1024x3072.Idx, (y 0).val < 32 * n → ∃ P ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 n, y ∈ P.1.set) := by
    intro n
    induction n with
    | zero => exact fun _ => ⟨fun p hp => absurd hp List.not_mem_nil, fun y hy => absurd hy (by omega)⟩
    | succ n ih =>
      intro hn
      obtain ⟨ih1, ih2⟩ := ih (by omega)
      rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 h1 lanes32 X6 X7 ⟨n, hn⟩]
      refine ⟨fun p hp => ?_, fun y hy => ?_⟩
      · rcases List.mem_append.1 hp with h | h
        · exact trip_t1_pieces 𝒱 c bd i arg2 harg2 arg3 harg3 arg4 harg4 arg5 harg5 arg6 harg6 arg7 harg7 arg8 harg8 arg9 harg9 arg10 harg10 arg11 harg11 arg12 harg12 arg13 harg13 h1 X6 X7 ⟨n, hn⟩ x6 x7 hx6 hx7 p h
        · exact ih1 p h
      · by_cases hlt : (y 0).val < 32 * n
        · obtain ⟨P, hP, hm⟩ := ih2 y hlt
          exact ⟨P, List.mem_append_right _ hP, hm⟩
        · obtain ⟨P, hP, hm⟩ := trip_t1_cover 𝒱 c bd i arg2 harg2 arg3 harg3 arg4 harg4 arg5 harg5 arg6 harg6 arg7 harg7 arg8 harg8 arg9 harg9 arg10 harg10 arg11 harg11 arg12 harg12 arg13 harg13 h1 X6 X7 ⟨n, hn⟩ y (by show 32 * n ≤ _; omega) (by show _ < 32 * n + 32; omega)
          exact ⟨P, List.mem_append_left _ hP, hm⟩
  obtain ⟨m1, m2⟩ := main _ le_rfl
  funext y
  refine View.read_writes_apply_of_pieces _ f (fun y : S1024x3072.Idx => wElt x6 x7 (y 0).val (y 1).val) _ m1 y (m2 y ?_)
  have : (y 0).val < 1024 := idx2_lt0 y
  have ht : k0_t1_loop.trips = 32 := by decide +kernel
  omega
end Cert.KernelIdeal.Gen
end
-- ==== Proof.Quant.lean ====
module
public import proofs.«01_k».proof.Proof.Weights

/-! The quantise loop of a point: the codes and the quantised activations it leaves, element by element. -/

@[expose] public section
set_option maxHeartbeats 100000
set_option maxRecDepth 65536
noncomputable section
namespace Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-- An array at a row and a column given as numbers; `d` past its end. -/
def rd {α : Type} {n0 n1 : Nat} (x : (⟨2, ![n0, n1]⟩ : Shape).Idx → α) (d : α) (r c : Nat) : α :=
  if h : r < n0 ∧ c < n1 then x (ix2 ⟨r, h.1⟩ ⟨c, h.2⟩) else d

theorem rd_ix2 {α : Type} {n0 n1 : Nat} (x : (⟨2, ![n0, n1]⟩ : Shape).Idx → α) (d : α) (r : Fin n0) (c : Fin n1) :
    rd x d r.val c.val = x (ix2 r c) := dif_pos ⟨r.isLt, c.isLt⟩

/-! ## Bytes of words -/

theorem byteOf_toNat (w : BitVec 32) (j : Nat) : (byteOf w j).toNat = w.toNat / 2 ^ (8 * j) % 256 := by
  simp [byteOf, BitVec.extractLsb'_toNat, Nat.shiftRight_eq_div_pow]

/-- A word is its four base-256 digits. -/
theorem digits (n : Nat) (h : n < 2^32) : n = n % 256 + 256 * (n / 256 % 256) + 65536 * (n / 65536 % 256) + 16777216 * (n / 16777216 % 256) := by
  omega

theorem add_digits (A B a0 a1 a2 a3 b0 b1 b2 b3 : Nat) (hA : A = a0 + 256 * a1 + 65536 * a2 + 16777216 * a3)
   (hB : B = b0 + 256 * b1 + 65536 * b2 + 16777216 * b3)
   (h0 : a0 + b0 < 256) (h1 : a1 + b1 < 256) (h2 : a2 + b2 < 256) (h3 : a3 + b3 < 256) :
    (A + B) % 2^32 = (a0 + b0) + 256 * (a1 + b1) + 65536 * (a2 + b2) + 16777216 * (a3 + b3) := by
  subst hA hB
  rw [Nat.mod_eq_of_lt (by omega)]; ring

theorem digit (c0 c1 c2 c3 : Nat) (h0 : c0 < 256) (h1 : c1 < 256) (h2 : c2 < 256) (h3 : c3 < 256) (j : Nat) (hj : j < 4) :
   (c0 + 256 * c1 + 65536 * c2 + 16777216 * c3) / 2 ^ (8 * j) % 256 = if j = 0 then c0 else if j = 1 then c1 else if j = 2 then c2 else c3 := by
  interval_cases j <;> simp <;> omega

/-- A word addition whose byte sums do not carry adds byte by byte. -/
theorem byteOf_add (a b : BitVec 32) (h : ∀ i < 4, (byteOf a i).toNat + (byteOf b i).toNat < 256) (j : Nat) (hj : j < 4) :
    byteOf (a + b) j = byteOf a j + byteOf b j := by
  have h0 := h 0 (by omega); have h1 := h 1 (by omega); have h2 := h 2 (by omega); have h3 := h 3 (by omega)
  have hh := h j hj
  rw [byteOf_toNat, byteOf_toNat] at h0 h1 h2 h3 hh
  rw [show 2 ^ (8 * 0) = 1 from rfl, Nat.div_one, Nat.div_one] at h0
  rw [show 2 ^ (8 * 1) = 256 from rfl] at h1
  rw [show 2 ^ (8 * 2) = 65536 from rfl] at h2
  rw [show 2 ^ (8 * 3) = 16777216 from rfl] at h3
  apply BitVec.eq_of_toNat_eq
  rw [BitVec.toNat_add, byteOf_toNat, byteOf_toNat, byteOf_toNat, BitVec.toNat_add, Nat.mod_eq_of_lt hh]
  rw [add_digits _ _ _ _ _ _ _ _ _ _ (digits a.toNat a.isLt) (digits b.toNat b.isLt) h0 h1 h2 h3, digit _ _ _ _ h0 h1 h2 h3 j hj]
  clear h0 h1 h2 h3 h hh
  interval_cases j
  · simp
  · simp
  · simp
  · simp
theorem byteOf_and (a b : BitVec 32) (j : Nat) (hj : j < 4) : byteOf (a &&& b) j = byteOf a j &&& byteOf b j := by
  apply BitVec.eq_of_getLsbD_eq; intro i hi
  simp [byteOf, hi]

theorem byteOf_or (a b : BitVec 32) (j : Nat) (hj : j < 4) : byteOf (a ||| b) j = byteOf a j ||| byteOf b j := by
  apply BitVec.eq_of_getLsbD_eq; intro i hi
  simp [byteOf, hi]

/-- The magnitude byte from a shifted-difference byte. -/
def magByte (b : BitVec 8) : BitVec 8 := (((b ^^^ 255#8) &&& 7#8) + 3#8) &&& 7#8
def codeByte (m s : BitVec 8) : BitVec 8 := m ||| ((s >>> 4) &&& ((m + 7#8) &&& 8#8))
def f8Byte (m s : BitVec 8) : BitVec 8 := (m <<< 2) ||| (s &&& 128#8)

def magWord (w : BitVec 32) : BitVec 32 := (((w ^^^ 4294967295#32) &&& 117901063#32) + 50529027#32) &&& 117901063#32
def codeWord (m s : BitVec 32) : BitVec 32 := m ||| ((s >>> 4) &&& ((m + 117901063#32) &&& 134744072#32))
def f8Word (m s : BitVec 32) : BitVec 32 := (m <<< 2) ||| (s &&& 2155905152#32)

theorem and7_toNat (b : BitVec 8) : (b &&& 7#8).toNat ≤ 7 := by
  rw [BitVec.toNat_and]; exact Nat.and_le_right

theorem byteOf_c07 (j : Nat) (hj : j < 4) : byteOf 117901063#32 j = 7#8 := by interval_cases j <;> rfl
theorem byteOf_c08 (j : Nat) (hj : j < 4) : byteOf 134744072#32 j = 8#8 := by interval_cases j <;> rfl
theorem byteOf_c03 (j : Nat) (hj : j < 4) : byteOf 50529027#32 j = 3#8 := by interval_cases j <;> rfl
theorem byteOf_cff (j : Nat) (hj : j < 4) : byteOf 4294967295#32 j = 255#8 := by interval_cases j <;> rfl
theorem byteOf_c80 (j : Nat) (hj : j < 4) : byteOf 2155905152#32 j = 128#8 := by interval_cases j <;> rfl

theorem byteOf_xor (a b : BitVec 32) (j : Nat) (hj : j < 4) : byteOf (a ^^^ b) j = byteOf a j ^^^ byteOf b j := by
  apply BitVec.eq_of_getLsbD_eq; intro i hi
  simp [byteOf, hi]

theorem byteOf_magWord (w : BitVec 32) (j : Nat) (hj : j < 4) : byteOf (magWord w) j = magByte (byteOf w j) := by
  unfold magWord magByte
  rw [byteOf_and _ _ _ hj, byteOf_add, byteOf_and _ _ _ hj, byteOf_xor _ _ _ hj, byteOf_c07 _ hj, byteOf_c03 _ hj, byteOf_cff _ hj]
  · intro i hi
    rw [byteOf_and _ _ _ hi, byteOf_c07 _ hi, byteOf_c03 _ hi]
    have := and7_toNat (byteOf (w ^^^ 4294967295#32) i)
    show _ + 3 < 256
    omega
  · exact hj

/-- A word whose bytes are all at most seven. -/
def Small (m : BitVec 32) : Prop := ∀ i < 4, (byteOf m i).toNat ≤ 7

theorem small_magWord (w : BitVec 32) : Small (magWord w) := by
  intro i hi
  unfold magWord
  rw [byteOf_and _ _ _ hi, byteOf_c07 _ hi]
  exact and7_toNat _

theorem byteOf_codeWord (m s : BitVec 32) (hm : Small m) (j : Nat) (hj : j < 4) :
    byteOf (codeWord m s) j = codeByte (byteOf m j) (byteOf s j) := by
  have e : byteOf ((s >>> 4) &&& ((m + 117901063#32) &&& 134744072#32)) j = (byteOf s j >>> 4) &&& (byteOf (m + 117901063#32) j &&& 8#8) := by
    apply BitVec.eq_of_getLsbD_eq; intro i hi
    interval_cases j <;> interval_cases i <;> simp [byteOf]
  unfold codeWord codeByte
  rw [byteOf_or _ _ _ hj, e, byteOf_add _ _ _ _ hj, byteOf_c07 _ hj]
  intro i hi
  rw [byteOf_c07 _ hi]
  have := hm i hi
  show _ + 7 < 256
  omega

theorem byteOf_f8Word (m s : BitVec 32) (hm : Small m) (j : Nat) (hj : j < 4) :
    byteOf (f8Word m s) j = f8Byte (byteOf m j) (byteOf s j) := by
  have e : byteOf (m <<< 2) j = byteOf m j <<< 2 := by
    have key : ∀ i < 4, byteOf m i = byteOf m i &&& 7#8 := by
      intro i hi
      have := hm i hi
      apply BitVec.eq_of_toNat_eq
      rw [BitVec.toNat_and]
      have h7 : (7#8).toNat = 2 ^ 3 - 1 := rfl
      rw [h7, Nat.and_two_pow_sub_one_eq_mod, Nat.mod_eq_of_lt (by omega)]
    have bits : ∀ i < 4, ∀ q, 3 ≤ q → q < 8 → m.getLsbD (8 * i + q) = false := by
      intro i hi q hq hq8
      have h := congrArg (fun b => b.getLsbD q) (key i hi)
      simp only [byteOf_getLsbD, BitVec.getLsbD_and, hq8, decide_true, Bool.true_and] at h
      rw [h]
      interval_cases q <;> simp
    apply BitVec.eq_of_getLsbD_eq; intro i hi
    have b06 := bits 0 (by omega) 6 (by omega) (by omega)
    have b07 := bits 0 (by omega) 7 (by omega) (by omega)
    have b16 := bits 1 (by omega) 6 (by omega) (by omega)
    have b17 := bits 1 (by omega) 7 (by omega) (by omega)
    have b26 := bits 2 (by omega) 6 (by omega) (by omega)
    have b27 := bits 2 (by omega) 7 (by omega) (by omega)
    norm_num at b06 b07 b16 b17 b26 b27
    interval_cases j <;> interval_cases i <;> simp [byteOf, b06, b07, b16, b17, b26, b27]
  unfold f8Word f8Byte
  rw [byteOf_or _ _ _ hj, byteOf_and _ _ _ hj, byteOf_c80 _ hj, e]

/-! ## The vector operations of a tile -/

section Ops
variable {F : FTy → Type} [FloatOps F]

/-- The reciprocal of the block's effective scale, zero where the scale is zero. -/
def qR {s : Shape} (g : F .f32) (sf : FVec F s .f32) : FVec F s .f32 :=
  select (cmpf .ogt sf (broadcast s (Scalar.ofBits .f32 0x00000000#32)))
    (divf (broadcast s (Scalar.ofBits .f32 0x3F800000#32)) (select (cmpf .ogt sf (broadcast s (Scalar.ofBits .f32 0x00000000#32))) (mulf sf (broadcast s g)) (broadcast s (Scalar.ofBits .f32 0x3F800000#32))))
    (broadcast s (Scalar.ofBits .f32 0x00000000#32))

def qS64 {s : Shape} (sf : FVec F s .f32) : FVec F s .f32 :=
  extf .f32 (truncf .bf16 (mulf sf (broadcast s (Scalar.ofBits .f32 0x42800000#32))) bitsLt_bf16_f32) bitsLt_bf16_f32

/-- The clipped position of a scaled magnitude. -/
def qY {s : Shape} (x : FVec F s .bf16) (rb : FVec F s .f32) : FVec F s .f32 :=
  minimumf (maximumf (addf (absf (mulf (extf .f32 x bitsLt_bf16_f32) rb)) (broadcast s (Scalar.ofBits .f32 0x3F800000#32))) (addf (absf (mulf (extf .f32 x bitsLt_bf16_f32) rb)) (absf (mulf (extf .f32 x bitsLt_bf16_f32) rb)))) (broadcast s (Scalar.ofBits .f32 0x41400000#32))

/-- Its fixed-point word. -/
def qBits {s : Shape} (y : FVec F s .f32) : IVec s 32 :=
  addi (shli (select (cmpf .olt y (broadcast s (Scalar.ofBits .f32 0x40000000#32))) (broadcast s 126#32) (select (cmpf .olt y (broadcast s (Scalar.ofBits .f32 0x40800000#32))) (broadcast s 127#32) (select (cmpf .olt y (broadcast s (Scalar.ofBits .f32 0x41000000#32))) (broadcast s 128#32) (broadcast s 129#32)))) (broadcast s 23#32))
    (fptosi 32 (ceil (mulf y (select (cmpf .olt y (broadcast s (Scalar.ofBits .f32 0x40000000#32))) (broadcast s (Scalar.ofBits .f32 0x4B000000#32)) (select (cmpf .olt y (broadcast s (Scalar.ofBits .f32 0x40800000#32))) (broadcast s (Scalar.ofBits .f32 0x4A800000#32)) (select (cmpf .olt y (broadcast s (Scalar.ofBits .f32 0x41000000#32))) (broadcast s (Scalar.ofBits .f32 0x4A000000#32)) (broadcast s (Scalar.ofBits .f32 0x49800000#32))))))))

/-- The byte whose low bits say how far up the grid the value goes. -/
def qN {s : Shape} (x : FVec F s .bf16) (rb : FVec F s .f32) (rnd : IVec s 32) : IVec s 8 :=
  trunci 8 (shrsi (subi (shrui rnd (broadcast s 10#32)) (qBits (qY x rb))) (broadcast s 22#32)) natLt_8_32

def qSg {s : Shape} (x : FVec F s .bf16) : IVec s 8 :=
  trunci 8 (select (cmpf .olt (extf .f32 x bitsLt_bf16_f32) (broadcast s (Scalar.ofBits .f32 0x00000000#32))) (broadcast s 4294967168#32) (broadcast s 0#32)) natLt_8_32

def qMagW (n : IVec S32x128 8) : IVec S8x128 32 :=
  andi (addi (andi (xori (bitcast S8x128 32 n bitcasts_S32x128_w8_S8x128_w32) (constantI S8x128 32 4294967295#32)) (broadcast S8x128 117901063#32)) (broadcast S8x128 50529027#32)) (broadcast S8x128 117901063#32)

def qCodeW (m sg : IVec S8x128 32) : IVec S8x128 32 :=
  ori m (andi (shrui sg (broadcast S8x128 4#32)) (andi (addi m (broadcast S8x128 117901063#32)) (broadcast S8x128 134744072#32)))

def qVal (m sg : IVec S8x128 32) (sb : FVec F S32x128 .f32) : FVec F S32x128 .bf16 :=
  shapeCast S32x128 (mulf (extf .bf16 (bitcastToFloat .fp8e4m3 (bitcast S32x128 8 (ori (shli m (broadcast S8x128 2#32)) (andi sg (broadcast S8x128 2155905152#32))) bitcasts_S8x128_w32_S32x128_w8)) bitsLt_fp8e4m3_bf16) (truncf .bf16 sb bitsLt_bf16_f32)) shapeCasts_S32x128_S32x128

/-- The lanes of words at an index vector. -/
def gather8 (x : IVec S8x128 32) (v : IVec S8x128 32) : IVec S8x128 32 :=
  dynamicGather 1 x (shapeCast S8x128 (shapeCast S8x128x1 (select (cmpi .slt v (broadcast S8x128 0#32)) (addi v (broadcast S8x128 128#32)) v) shapeCasts_S8x128_S8x128x1) shapeCasts_S8x128x1_S8x128)

/-- The code words of an even and an odd tile, neighbouring lanes joined two to a byte. -/
def qPackW (ev : IVec S8x128 1) (sq ce co : IVec S8x128 32) : IVec S32x128 8 :=
  bitcast S32x128 8 (gather8 (select ev (ori ce (shli (dynamicRotate 1 127#32 none ce rotates_S8x128_d1) (broadcast S8x128 4#32))) (ori (dynamicRotate 1 1#32 none co rotates_S8x128_d1) (shli co (broadcast S8x128 4#32)))) sq) bitcasts_S8x128_w32_S32x128_w8
end Ops

/-! ## One element -/

/-- The scalar forms. -/
def rOf (g s : EReal) : EReal := qR (F := Ideal) (s := ⟨0, ![]⟩) g (fun _ => s) ix0
def nOf (x rb : EReal) (rnd : BitVec 32) : BitVec 8 := qN (F := Ideal) (s := ⟨0, ![]⟩) (fun _ => x) (fun _ => rb) (fun _ => rnd) ix0
def sgOf (x : EReal) : BitVec 8 := qSg (F := Ideal) (s := ⟨0, ![]⟩) (fun _ => x) ix0
def s64Of (s : EReal) : EReal := s * Ideal.ofBits .f32 0x42800000#32

section Elt
variable (h : Nat) (g : EReal) (x3 : S512x1024.Idx → EReal) (x4 : S512x1024.Idx → BitVec 32) (s8 : S512x128.Idx → EReal)

/-- The magnitude bits of the code at row `r`, column `c` of a block whose scales start at column `h`. -/
def qMag (r c : Nat) : BitVec 8 := magByte (nOf (rd x3 0 r c) (rOf g (rd s8 0 r (h + c / 16))) (rd x4 0 r c))
def qCode (r c : Nat) : BitVec 8 := codeByte (qMag h g x3 x4 s8 r c) (sgOf (rd x3 0 r c))
def qDy (r c : Nat) : EReal :=
  Ideal.ofBits .fp8e4m3 (f8Byte (qMag h g x3 x4 s8 r c) (sgOf (rd x3 0 r c))) * s64Of (rd s8 0 r (h + c / 16))
/-- The byte holding the codes at columns `2 b` and `2 b + 1`. -/
def qByte (r b : Nat) : BitVec 8 := qCode h g x3 x4 s8 r (2 * b) ||| (qCode h g x3 x4 s8 r (2 * b + 1) <<< 4)
end Elt

def lanes8 : IVec S8x128 32 := fun j => BitVec.ofNat 32 (j 1).val
def evens : IVec S8x128 1 := cmpi .eq (andi lanes8 (broadcast S8x128 1#32)) (broadcast S8x128 0#32)
def squeeze : IVec S8x128 32 := k0_pay1 lanes8 64#32

theorem laneIdx16 : ∀ (l : Fin 128) (t : Fin 8) (u : Fin 2),
    (let v := laneIdx (s := ⟨0, ![]⟩) 16#32 (IntOp.addi (BitVec.ofNat 32 (64 * u.val)) (BitVec.ofNat 32 (8 * t.val))) (fun _ => BitVec.ofNat 32 l.val) ix0
     (Scalar.select (IntOp.cmpi .slt v 0#32) (IntOp.addi v 128#32) v).toNat % 128) = 64 * u.val + 8 * t.val + l.val / 16 := by
  decide +kernel

theorem gather_lane16 (x : FVec Ideal S32x128 .f32) (t : Fin 8) (u : Fin 2) (r : Fin 32) (l : Fin 128) :
    gather32 x (laneIdx 16#32 (IntOp.addi (BitVec.ofNat 32 (64 * u.val)) (BitVec.ofNat 32 (8 * t.val))) lanes32) (ix2 r l)
      = x (ix2 r ⟨64 * u.val + 8 * t.val + l.val / 16, by omega⟩) :=
  gather32_apply x _ r l _ (laneIdx16 l t u)

theorem gather8_apply (x : IVec S8x128 32) (v : IVec S8x128 32) (r : Fin 8) (l m : Fin 128)
    (h : (Scalar.select (IntOp.cmpi .slt (v (ix2 r l)) 0#32) (IntOp.addi (v (ix2 r l)) 128#32) (v (ix2 r l))).toNat % 128 = m.val) :
    gather8 x v (ix2 r l) = x (ix2 r m) := by
  unfold gather8
  rw [shapeCast_shapeCast]
  unfold dynamicGather
  congr 1
  funext b
  match b with
  | ⟨0, _⟩ => rfl
  | ⟨1, _⟩ => exact Fin.ext h

theorem squeezeIdx : ∀ (l : Fin 128),
    (let w : BitVec 32 := BitVec.ofNat 32 l.val
     let v := Scalar.select (IntOp.cmpi .slt w 64#32) (IntOp.muli 2#32 w) (IntOp.subi (IntOp.muli 2#32 w) 127#32)
     (Scalar.select (IntOp.cmpi .slt v 0#32) (IntOp.addi v 128#32) v).toNat % 128) = if l.val < 64 then 2 * l.val else 2 * l.val - 127 := by
  decide +kernel

theorem evensAt : ∀ (l : Fin 128), IntOp.cmpi .eq (IntOp.andi (BitVec.ofNat 32 l.val) 1#32) 0#32 = if l.val % 2 = 0 then 1#1 else 0#1 := by
  decide +kernel

theorem rotate_apply (n : BitVec 32) (x : IVec S8x128 32) (r : Fin 8) (l m : Fin 128) (h : (l.val + 128 - n.toNat % 128) % 128 = m.val) :
    dynamicRotate 1 n none x rotates_S8x128_d1 (ix2 r l) = x (ix2 r m) := by
  unfold dynamicRotate
  dsimp only
  congr 1
  funext b
  match b with
  | ⟨0, _⟩ => rfl
  | ⟨1, _⟩ => exact Fin.ext h

/-- Bytes of small nibbles joined. -/
theorem byteOf_shl4 (w : BitVec 32) (h : ∀ i < 4, ∀ q, 4 ≤ q → q < 8 → (byteOf w i).getLsbD q = false) (j : Nat) (hj : j < 4) :
    byteOf (w <<< 4) j = byteOf w j <<< 4 := by
  have b0 := fun q h1 h2 => h 0 (by omega) q h1 h2
  have b1 := fun q h1 h2 => h 1 (by omega) q h1 h2
  have b2 := fun q h1 h2 => h 2 (by omega) q h1 h2
  simp only [byteOf_getLsbD] at b0 b1 b2
  have c04 := b0 4 (by omega) (by omega); have c05 := b0 5 (by omega) (by omega); have c06 := b0 6 (by omega) (by omega); have c07 := b0 7 (by omega) (by omega)
  have c14 := b1 4 (by omega) (by omega); have c15 := b1 5 (by omega) (by omega); have c16 := b1 6 (by omega) (by omega); have c17 := b1 7 (by omega) (by omega)
  have c24 := b2 4 (by omega) (by omega); have c25 := b2 5 (by omega) (by omega); have c26 := b2 6 (by omega) (by omega); have c27 := b2 7 (by omega) (by omega)
  clear h b0 b1 b2
  simp at c04 c05 c06 c07 c14 c15 c16 c17 c24 c25 c26 c27
  apply BitVec.eq_of_getLsbD_eq; intro i hi
  interval_cases j <;> interval_cases i <;> simp [byteOf, *]

/-- A code byte has nothing above bit three. -/
theorem codeByte_high : ∀ (b : BitVec 8) (q : Fin 8), 4 ≤ q.val → ∀ s : BitVec 8, (codeByte (magByte b) s).getLsbD q.val = false := by
  intro b q hq s
  have hm : ∀ q, 4 ≤ q → q < 8 → (magByte b).getLsbD q = false := by
    intro q h1 h2
    unfold magByte
    rw [BitVec.getLsbD_and]
    have : (7#8).getLsbD q = false := by interval_cases q <;> rfl
    rw [this, Bool.and_false]
  unfold codeByte
  have h8 : (8#8).getLsbD q.val = false := by
    have := q.isLt
    obtain ⟨q, hq'⟩ := q
    simp only at hq ⊢
    interval_cases q <;> rfl
  rw [BitVec.getLsbD_or, BitVec.getLsbD_and, BitVec.getLsbD_and, hm _ hq q.isLt, h8]
  simp

/-! ## A tile's pieces -/

/-- A loaded tile holds rows `32 k …`, columns `q …` of a block. -/
def LoadAt {α : Type} {n0 n1 : Nat} (x : (⟨2, ![n0, n1]⟩ : Shape).Idx → α) (d : α) (k q : Nat) (X : S32x128.Idx → α) : Prop :=
  ∀ (r : Fin 32) (l : Fin 128), X (ix2 r l) = rd x d (32 * k + r.val) (q + l.val)

theorem loadAt_of {n0 n1 : Nat} {e : EltTy} (m : Memref sig .tc .vmem ⟨2, ![n0, n1]⟩ e) (X : m.view.ty.Contents (Elt Ideal)) (x : (⟨2, ![n0, n1]⟩ : Shape).Idx → Elt Ideal e) (d : Elt Ideal e)
    (hx : m.view.read (Elt Ideal) X = x) (k q : Nat) (off : Fin 2 → Nat) (ho : off = ![32 * k, q]) (h : ∀ c, off c + ![32, 128] c ≤ (⟨2, ![n0, n1]⟩ : Shape).size c) :
    LoadAt x d k q (m.view.readAt (Elt Ideal) (Rect.unit (s := ⟨2, ![n0, n1]⟩) off ![32, 128] h).toLoadRect X) := by
  intro r l
  obtain ⟨e0, e1⟩ := emb_unit2 off _ _ ho h r l
  have b0 := h 0; have b1 := h 1
  subst ho
  rw [View.readAt_apply, hx]
  unfold rd
  have c0 : 32 * k + 32 ≤ n0 := b0
  have c1 : q + 128 ≤ n1 := b1
  rw [dif_pos ⟨by omega, by omega⟩]
  congr 1
  funext c
  match c with
  | ⟨0, _⟩ => exact Fin.ext e0
  | ⟨1, _⟩ => exact Fin.ext e1

/-- A word tile holds the bytes `B`. -/
def BytesAt (B : Fin 32 → Fin 128 → BitVec 8) (w : IVec S8x128 32) : Prop :=
  ∀ (r : Fin 32) (l : Fin 128), byteOf (w (ix2 ⟨r.val / 4, by omega⟩ l)) (r.val % 4) = B r l

theorem BytesAt.at {B : Fin 32 → Fin 128 → BitVec 8} {w : IVec S8x128 32} (h : BytesAt B w) (a : Fin 8) (l : Fin 128) (i : Nat) (hi : i < 4) :
    byteOf (w (ix2 a l)) i = B ⟨4 * a.val + i, by omega⟩ l := by
  rw [← h]
  have e1 : (⟨(4 * a.val + i) / 4, by omega⟩ : Fin 8) = a := Fin.ext (by show (4 * a.val + i) / 4 = a.val; omega)
  have e2 : (4 * a.val + i) % 4 = i := by omega
  simp only [e1, e2]

theorem bytesAt_bitcast (x : IVec S32x128 8) : BytesAt (fun r l => x (ix2 r l)) (bitcast S8x128 32 x bitcasts_S32x128_w8_S8x128_w32) := by
  intro r l
  exact byteOf_bitcast_8_32_ix2 _ _ _ _ _ (by omega) r (by show r.val = 4 * (r.val / 4) + r.val % 4; omega)

theorem bytesAt_mag (n : IVec S32x128 8) : BytesAt (fun r l => magByte (n (ix2 r l))) (qMagW n) := by
  intro r l
  exact (byteOf_magWord _ _ (by omega)).trans (congrArg magByte (bytesAt_bitcast n r l))

theorem small_mag (n : IVec S32x128 8) (j : S8x128.Idx) : Small (qMagW n j) := small_magWord _

theorem bytesAt_code (n sg : IVec S32x128 8) :
    BytesAt (fun r l => codeByte (magByte (n (ix2 r l))) (sg (ix2 r l))) (qCodeW (qMagW n) (bitcast S8x128 32 sg bitcasts_S32x128_w8_S8x128_w32)) := by
  intro r l
  exact (byteOf_codeWord _ _ (small_mag _ _) _ (by omega)).trans (congrArg₂ codeByte (bytesAt_mag n r l) (bytesAt_bitcast sg r l))

/-- The eight-bit float words. -/
def qF8W (m sg : IVec S8x128 32) : IVec S8x128 32 := ori (shli m (broadcast S8x128 2#32)) (andi sg (broadcast S8x128 2155905152#32))

theorem qF8W_apply (m sg : IVec S8x128 32) (j : S8x128.Idx) : qF8W m sg j = f8Word (m j) (sg j) := by
  have e1 : shli m (broadcast S8x128 2#32) j = m j <<< 2 := by
    simp [shli, broadcast, IntOp.shli]
  have e2 : qF8W m sg j = shli m (broadcast S8x128 2#32) j ||| (sg j &&& 2155905152#32) := by
    unfold qF8W; rfl
  rw [e2, e1, f8Word]

theorem bytesAt_f8 (n sg : IVec S32x128 8) :
    BytesAt (fun r l => f8Byte (magByte (n (ix2 r l))) (sg (ix2 r l))) (qF8W (qMagW n) (bitcast S8x128 32 sg bitcasts_S32x128_w8_S8x128_w32)) := by
  intro r l
  rw [qF8W_apply]
  exact (byteOf_f8Word _ _ (small_mag _ _) _ (by omega)).trans (congrArg₂ f8Byte (bytesAt_mag n r l) (bytesAt_bitcast sg r l))

theorem qVal_eq (m sg : IVec S8x128 32) (sb : FVec Ideal S32x128 .f32) (j : S32x128.Idx) :
    qVal m sg sb j = Ideal.ofBits .fp8e4m3 (bitcast S32x128 8 (qF8W m sg) bitcasts_S8x128_w32_S32x128_w8 j) * sb j := by
  unfold qVal
  rw [shapeCast_self]
  unfold qF8W
  rfl

theorem qVal_apply (n sg : IVec S32x128 8) (sb : FVec Ideal S32x128 .f32) (r : Fin 32) (l : Fin 128) :
    qVal (qMagW n) (bitcast S8x128 32 sg bitcasts_S32x128_w8_S8x128_w32) sb (ix2 r l)
      = Ideal.ofBits .fp8e4m3 (f8Byte (magByte (n (ix2 r l))) (sg (ix2 r l))) * sb (ix2 r l) := by
  rw [qVal_eq, bitcast_32_8_ix2 _ _ r l ⟨r.val / 4, by omega⟩ rfl, bytesAt_f8 n sg r l]

theorem qPackW_apply (ce co : IVec S8x128 32) (Ce Co : Fin 32 → Fin 128 → BitVec 8) (he : BytesAt Ce ce) (ho : BytesAt Co co)
    (hce : ∀ r l q, 4 ≤ q → q < 8 → (Ce r l).getLsbD q = false) (hco : ∀ r l q, 4 ≤ q → q < 8 → (Co r l).getLsbD q = false)
    (r : Fin 32) (l : Fin 128) :
    qPackW evens squeeze ce co (ix2 r l) = if h : l.val < 64 then Ce r ⟨2 * l.val, by omega⟩ ||| (Ce r ⟨2 * l.val + 1, by omega⟩ <<< 4)
      else Co r ⟨2 * l.val - 128, by omega⟩ ||| (Co r ⟨2 * l.val - 127, by omega⟩ <<< 4) := by
  unfold qPackW
  refine (bitcast_32_8_ix2 _ _ r l ⟨r.val / 4, by omega⟩ rfl).trans ?_
  have hq := squeezeIdx l
  by_cases hl : l.val < 64
  · rw [dif_pos hl]
    rw [if_pos hl] at hq
    rw [gather8_apply _ squeeze ⟨r.val / 4, by omega⟩ l ⟨2 * l.val, by omega⟩ hq]
    have hev : evens (ix2 ⟨r.val / 4, by omega⟩ ⟨2 * l.val, by omega⟩) = 1#1 :=
      (evensAt ⟨2 * l.val, by omega⟩).trans (if_pos (by show 2 * l.val % 2 = 0; omega))
    have hrot := rotate_apply 127#32 ce ⟨r.val / 4, by omega⟩ ⟨2 * l.val, by omega⟩ ⟨2 * l.val + 1, by omega⟩ (by
      show (2 * l.val + 128 - 127 % 128) % 128 = 2 * l.val + 1; omega)
    have e : select evens (ori ce (shli (dynamicRotate 1 127#32 none ce rotates_S8x128_d1) (broadcast S8x128 4#32))) (ori (dynamicRotate 1 1#32 none co rotates_S8x128_d1) (shli co (broadcast S8x128 4#32))) (ix2 ⟨r.val / 4, by omega⟩ ⟨2 * l.val, by omega⟩)
        = ce (ix2 ⟨r.val / 4, by omega⟩ ⟨2 * l.val, by omega⟩) ||| (ce (ix2 ⟨r.val / 4, by omega⟩ ⟨2 * l.val + 1, by omega⟩) <<< 4) := by
      rw [← hrot]
      exact (congrArg (fun b => Scalar.select b _ _) hev).trans rfl
    rw [e, byteOf_or _ _ _ (by omega), byteOf_shl4 _ _ _ (by omega), he, he]
    intro i hi q h1 h2
    rw [he.at _ _ _ hi]
    exact hce _ _ q h1 h2
  · rw [dif_neg hl]
    rw [if_neg hl] at hq
    rw [gather8_apply _ squeeze ⟨r.val / 4, by omega⟩ l ⟨2 * l.val - 127, by omega⟩ hq]
    have hev : evens (ix2 ⟨r.val / 4, by omega⟩ ⟨2 * l.val - 127, by omega⟩) = 0#1 :=
      (evensAt ⟨2 * l.val - 127, by omega⟩).trans (if_neg (by show ¬ (2 * l.val - 127) % 2 = 0; omega))
    have hrot := rotate_apply 1#32 co ⟨r.val / 4, by omega⟩ ⟨2 * l.val - 127, by omega⟩ ⟨2 * l.val - 128, by omega⟩ (by
      show (2 * l.val - 127 + 128 - 1 % 128) % 128 = 2 * l.val - 128; omega)
    have e : select evens (ori ce (shli (dynamicRotate 1 127#32 none ce rotates_S8x128_d1) (broadcast S8x128 4#32))) (ori (dynamicRotate 1 1#32 none co rotates_S8x128_d1) (shli co (broadcast S8x128 4#32))) (ix2 ⟨r.val / 4, by omega⟩ ⟨2 * l.val - 127, by omega⟩)
        = co (ix2 ⟨r.val / 4, by omega⟩ ⟨2 * l.val - 128, by omega⟩) ||| (co (ix2 ⟨r.val / 4, by omega⟩ ⟨2 * l.val - 127, by omega⟩) <<< 4) := by
      rw [← hrot]
      exact (congrArg (fun b => Scalar.select b _ _) hev).trans rfl
    rw [e, byteOf_or _ _ _ (by omega), byteOf_shl4 _ _ _ (by omega), ho, ho]
    intro i hi q h1 h2
    rw [ho.at _ _ _ hi]
    exact hco _ _ q h1 h2

section Pieces
variable (u : Fin 2) (g : EReal) (x3 : S512x1024.Idx → EReal) (x4 : S512x1024.Idx → BitVec 32) (s8 : S512x128.Idx → EReal)

/-- The tile's scale lanes. -/
def qIdx (u : Fin 2) (t : Nat) : IVec S32x128 32 :=
  laneIdx 16#32 (IntOp.addi (BitVec.ofNat 32 (64 * u.val)) (BitVec.ofNat 32 (8 * t))) lanes32

def tileN (g : EReal) (u : Fin 2) (t : Nat) (X3 : FVec Ideal S32x128 .bf16) (X4 : IVec S32x128 32) (sf : FVec Ideal S32x128 .f32) : IVec S32x128 8 :=
  qN X3 (gather32 (qR (F := Ideal) g sf) (qIdx u t)) X4

theorem tileN_apply (k : Nat) (t : Fin 8) {X3 : FVec Ideal S32x128 .bf16} {X4 : IVec S32x128 32} {sf : FVec Ideal S32x128 .f32}
    (h3 : LoadAt x3 0 k (128 * t.val) X3) (h4 : LoadAt x4 0 k (128 * t.val) X4) (hs : LoadAt s8 0 k 0 sf) (r : Fin 32) (l : Fin 128) :
    magByte (tileN g u t.val X3 X4 sf (ix2 r l)) = qMag (64 * u.val) g x3 x4 s8 (32 * k + r.val) (128 * t.val + l.val) := by
  have e := gather_lane16 (qR (F := Ideal) g sf) t u r l
  have e1 : tileN g u t.val X3 X4 sf (ix2 r l) = nOf (X3 (ix2 r l)) (gather32 (qR (F := Ideal) g sf) (qIdx u t.val) (ix2 r l)) (X4 (ix2 r l)) := rfl
  have e2 : qR (F := Ideal) g sf (ix2 r ⟨64 * u.val + 8 * t.val + l.val / 16, by omega⟩) = rOf g (sf (ix2 r ⟨64 * u.val + 8 * t.val + l.val / 16, by omega⟩)) := rfl
  rw [e1]
  unfold qIdx
  rw [e, e2, h3, h4, hs]
  unfold qMag
  have : 0 + (64 * u.val + 8 * t.val + l.val / 16) = 64 * u.val + (128 * t.val + l.val) / 16 := by omega
  rw [this]

theorem dy_piece (k : Nat) (t : Fin 8) {X3 : FVec Ideal S32x128 .bf16} {X4 : IVec S32x128 32} {sf : FVec Ideal S32x128 .f32}
    (h3 : LoadAt x3 0 k (128 * t.val) X3) (h4 : LoadAt x4 0 k (128 * t.val) X4) (hs : LoadAt s8 0 k 0 sf)
    (off : Fin 2 → Nat) (ho : off = ![32 * k, 128 * t.val]) (h : ∀ c, off c + ![32, 128] c ≤ S512x1024.size c) (x : S32x128.Idx) :
    qVal (F := Ideal) (qMagW (tileN g u t.val X3 X4 sf)) (bitcast S8x128 32 (qSg (F := Ideal) X3) bitcasts_S32x128_w8_S8x128_w32) (gather32 (qS64 (F := Ideal) sf) (qIdx u t.val)) x
      = (fun y : S512x1024.Idx => qDy (64 * u.val) g x3 x4 s8 (y 0).val (y 1).val) ((Rect.unit (s := S512x1024) off ![32, 128] h).emb x) := by
  obtain ⟨r, l, rfl⟩ : ∃ (r : Fin 32) (l : Fin 128), x = ix2 r l := ⟨x 0, x 1, eq_ix2 x⟩
  obtain ⟨e0, e1⟩ := emb_unit2 off _ _ ho h r l
  have e := gather_lane16 (qS64 (F := Ideal) sf) t u r l
  have e2 : qS64 (F := Ideal) sf (ix2 r ⟨64 * u.val + 8 * t.val + l.val / 16, by omega⟩) = s64Of (sf (ix2 r ⟨64 * u.val + 8 * t.val + l.val / 16, by omega⟩)) := rfl
  have e3 : qSg (F := Ideal) X3 (ix2 r l) = sgOf (X3 (ix2 r l)) := rfl
  dsimp only
  rw [qVal_apply, tileN_apply u g x3 x4 s8 k t h3 h4 hs, e3, e0, e1]
  unfold qIdx
  rw [e, e2, h3, hs]
  unfold qDy
  have : 0 + (64 * u.val + 8 * t.val + l.val / 16) = 64 * u.val + (128 * t.val + l.val) / 16 := by omega
  rw [this]

theorem code_piece (k : Nat) (t : Fin 4) (te tq : Fin 8) (hte : te.val = 2 * t.val) (hto : tq.val = 2 * t.val + 1)
    {X3 Y3 : FVec Ideal S32x128 .bf16} {X4 Y4 : IVec S32x128 32} {sf : FVec Ideal S32x128 .f32}
    (h3 : LoadAt x3 0 k (128 * te.val) X3) (h4 : LoadAt x4 0 k (128 * te.val) X4)
    (k3 : LoadAt x3 0 k (128 * tq.val) Y3) (k4 : LoadAt x4 0 k (128 * tq.val) Y4) (hs : LoadAt s8 0 k 0 sf)
    (off : Fin 2 → Nat) (ho : off = ![32 * k, 128 * t.val]) (h : ∀ c, off c + ![32, 128] c ≤ S512x512.size c) (x : S32x128.Idx) :
    qPackW evens squeeze (qCodeW (qMagW (tileN g u te.val X3 X4 sf)) (bitcast S8x128 32 (qSg (F := Ideal) X3) bitcasts_S32x128_w8_S8x128_w32))
        (qCodeW (qMagW (tileN g u tq.val Y3 Y4 sf)) (bitcast S8x128 32 (qSg (F := Ideal) Y3) bitcasts_S32x128_w8_S8x128_w32)) x
      = (fun y : S512x512.Idx => qByte (64 * u.val) g x3 x4 s8 (y 0).val (y 1).val) ((Rect.unit (s := S512x512) off ![32, 128] h).emb x) := by
  obtain ⟨r, l, rfl⟩ : ∃ (r : Fin 32) (l : Fin 128), x = ix2 r l := ⟨x 0, x 1, eq_ix2 x⟩
  obtain ⟨e0, e1⟩ := emb_unit2 off _ _ ho h r l
  have ce : ∀ (l : Fin 128), codeByte (magByte (tileN g u te.val X3 X4 sf (ix2 r l))) (qSg (F := Ideal) X3 (ix2 r l)) = qCode (64 * u.val) g x3 x4 s8 (32 * k + r.val) (128 * te.val + l.val) := by
    intro l
    have e3 : qSg (F := Ideal) X3 (ix2 r l) = sgOf (X3 (ix2 r l)) := rfl
    rw [tileN_apply u g x3 x4 s8 k te h3 h4 hs, e3, h3]; rfl
  have co : ∀ (l : Fin 128), codeByte (magByte (tileN g u tq.val Y3 Y4 sf (ix2 r l))) (qSg (F := Ideal) Y3 (ix2 r l)) = qCode (64 * u.val) g x3 x4 s8 (32 * k + r.val) (128 * tq.val + l.val) := by
    intro l
    have e3 : qSg (F := Ideal) Y3 (ix2 r l) = sgOf (Y3 (ix2 r l)) := rfl
    rw [tileN_apply u g x3 x4 s8 k tq k3 k4 hs, e3, k3]; rfl
  dsimp only
  rw [qPackW_apply _ _ _ _ (bytesAt_code _ _) (bytesAt_code _ _) (fun r l q h1 h2 => codeByte_high _ ⟨q, h2⟩ h1 _) (fun r l q h1 h2 => codeByte_high _ ⟨q, h2⟩ h1 _), e0, e1]
  unfold qByte
  by_cases hl : l.val < 64
  · rw [dif_pos hl, ce, ce]
    have a1 : 128 * te.val + 2 * l.val = 2 * (128 * t.val + l.val) := by omega
    have a2 : 128 * te.val + (2 * l.val + 1) = 2 * (128 * t.val + l.val) + 1 := by omega
    simp only [a1, a2]
  · rw [dif_neg hl, co, co]
    have a1 : 128 * tq.val + (2 * l.val - 128) = 2 * (128 * t.val + l.val) := by omega
    have a2 : 128 * tq.val + (2 * l.val - 127) = 2 * (128 * t.val + l.val) + 1 := by omega
    simp only [a1, a2]
end Pieces
end Cert.KernelIdeal.Gen
end
-- ==== Proof.Epilogue.lean ====
module

public import proofs.«01_k».proof.Proof.Weights
public import proofs.«01_k».proof.Proof.Quant

@[expose] public section

set_option maxRecDepth 100000

noncomputable section

namespace Cert.KernelIdeal.Gen

open Idealize.ShloMosaic Idealize.ShloMosaic.TcCoe Idealize.ShloMosaic.ValueIdx Idealize.SL.Sem

/-- One output of a row block: column `c` comes from the even or the odd half of its tile of the accumulator, times the output scale. -/
def outElt (x11 : S2048x3072.Idx → EReal) (v1 : EReal) (i r c : Nat) : EReal :=
  rd x11 0 (512 * i + r) (256 * (c / 256) + 128 * (c % 2) + c % 256 / 2) * v1

/-- The vector of lane numbers on 16 rows. -/
def lanes16 : IVec S16x128 32 := iota .tc S16x128 32 [1] iota_S16x128_d1_w32

theorem lanes16_apply (r : Fin 16) (l : Fin 128) : lanes16 (ix2 r l) = BitVec.ofNat 32 l.val := by
  simp [lanes16, iota, ix2]

/-- The lanes of `x` at an index vector, a negative index counted from the end. -/
def gather16 (x : FVec Ideal S16x128 .f32) (v : IVec S16x128 32) : FVec Ideal S16x128 .f32 :=
  dynamicGather 1 x (shapeCast S16x128 (shapeCast S16x128x1 (select (cmpi .slt v (broadcast S16x128 0#32)) (addi v (broadcast S16x128 128#32)) v) shapeCasts_S16x128_S16x128x1) shapeCasts_S16x128x1_S16x128)

/-- One tile of the output: even lanes from `e`, odd lanes from `o`, each scaled. -/
def outTile (c : BitVec 32) (v1 : Elt Ideal .f32) (e o : FVec Ideal S16x128 .f32) : FVec Ideal S16x128 .bf16 :=
  truncf .bf16 (select (cmpi .eq (andi lanes16 (broadcast S16x128 1#32)) (broadcast S16x128 0#32))
    (gather16 (extf .f32 (truncf .bf16 (mulf e (broadcast S16x128 v1)) bitsLt_bf16_f32) bitsLt_bf16_f32) (laneIdx 2#32 c lanes16))
    (gather16 (extf .f32 (truncf .bf16 (mulf o (broadcast S16x128 v1)) bitsLt_bf16_f32) bitsLt_bf16_f32) (laneIdx 2#32 c lanes16))) bitsLt_bf16_f32

theorem laneIdx2 : ∀ (l : Fin 128) (h : Fin 2),
    (let v := laneIdx (s := ⟨0, ![]⟩) 2#32 (BitVec.ofNat 32 (64 * h.val)) (fun _ => BitVec.ofNat 32 l.val) ix0
     (Scalar.select (IntOp.cmpi .slt v 0#32) (IntOp.addi v 128#32) v).toNat % 128) = 64 * h.val + l.val / 2 := by
  decide +kernel

theorem even16 : ∀ l : Fin 128, IntOp.cmpi .eq (IntOp.andi (BitVec.ofNat 32 l.val) 1#32) 0#32 = if l.val % 2 = 0 then 1#1 else 0#1 := by
  decide +kernel

theorem gather16_lane (x : FVec Ideal S16x128 .f32) (h : Fin 2) (r : Fin 16) (l : Fin 128) :
    gather16 x (laneIdx 2#32 (BitVec.ofNat 32 (64 * h.val)) lanes16) (ix2 r l) = x (ix2 r ⟨64 * h.val + l.val / 2, by omega⟩) := by
  unfold gather16
  rw [shapeCast_shapeCast]
  unfold dynamicGather
  congr 1
  funext b
  match b with
  | ⟨0, _⟩ => rfl
  | ⟨1, _⟩ =>
    refine Fin.ext (Eq.trans ?_ (laneIdx2 l h))
    have e := lanes16_apply r l
    show BitVec.toNat (Scalar.select (IntOp.cmpi .slt (laneIdx 2#32 (BitVec.ofNat 32 (64 * h.val)) lanes16 (ix2 r l)) 0#32) (IntOp.addi (laneIdx 2#32 (BitVec.ofNat 32 (64 * h.val)) lanes16 (ix2 r l)) 128#32) (laneIdx 2#32 (BitVec.ofNat 32 (64 * h.val)) lanes16 (ix2 r l))) % 128 = _
    have e2 : laneIdx 2#32 (BitVec.ofNat 32 (64 * h.val)) lanes16 (ix2 r l) = laneIdx (s := ⟨0, ![]⟩) 2#32 (BitVec.ofNat 32 (64 * h.val)) (fun _ => BitVec.ofNat 32 l.val) ix0 := by
      rw [← e]; rfl
    rw [e2]

theorem outTile_apply (h : Fin 2) (v1 : Elt Ideal .f32) (e o : FVec Ideal S16x128 .f32) (r : Fin 16) (l : Fin 128) :
    outTile (BitVec.ofNat 32 (64 * h.val)) v1 e o (ix2 r l)
      = (if l.val % 2 = 0 then e (ix2 r ⟨64 * h.val + l.val / 2, by omega⟩) else o (ix2 r ⟨64 * h.val + l.val / 2, by omega⟩)) * (v1 : EReal) := by
  show Scalar.select (IntOp.cmpi .eq (IntOp.andi (lanes16 (ix2 r l)) 1#32) 0#32) (gather16 _ _ (ix2 r l)) (gather16 _ _ (ix2 r l)) = _
  rw [lanes16_apply, even16, gather16_lane, gather16_lane]
  by_cases hl : l.val % 2 = 0
  · simp only [hl, if_true]; rfl
  · simp only [hl, if_false]; rfl

section Pieces
variable (x11 : S2048x3072.Idx → EReal) (v1 : EReal)

/-- A loaded tile of the accumulator: rows from `p`, columns from `q`. -/
def AccAt (p q : Nat) (X : S16x128.Idx → EReal) : Prop :=
  ∀ (r : Fin 16) (l : Fin 128), X (ix2 r l) = rd x11 0 (p + r.val) (q + l.val)

theorem accAt_of (m : Memref sig .tc .vmem S2048x3072 .f32) (X : m.view.ty.Contents (Elt Ideal)) (hx : m.view.read (Elt Ideal) X = x11)
    (p q : Nat) (off : Fin 2 → Nat) (ho : off = ![p, q]) (h : ∀ c, off c + ![16, 128] c ≤ S2048x3072.size c) :
    AccAt x11 p q (m.view.readAt (Elt Ideal) (Rect.unit (s := S2048x3072) off ![16, 128] h).toLoadRect X) := by
  intro r l
  obtain ⟨e0, e1⟩ := emb_unit2 off _ _ ho h r l
  have b0 := h 0; have b1 := h 1
  subst ho
  rw [View.readAt_apply, hx]
  have b0' : p + 16 ≤ 2048 := b0
  have b1' : q + 128 ≤ 3072 := b1
  unfold rd
  rw [dif_pos ⟨by omega, by omega⟩]
  congr 1
  funext c
  match c with
  | ⟨0, _⟩ => exact Fin.ext e0
  | ⟨1, _⟩ => exact Fin.ext e1

theorem outElt_eq (h : Fin 2) (i t r l k : Nat) (hl : l < 128) {e o : FVec Ideal S16x128 .f32} {r' : Fin 16} (hr : r = 16 * k + r'.val)
    (he : AccAt x11 (512 * i + 16 * k) (256 * t) e)
    (ho : AccAt x11 (512 * i + 16 * k) (256 * t + 128) o) :
    (if l % 2 = 0 then e (ix2 r' ⟨64 * h.val + l / 2, by omega⟩) else o (ix2 r' ⟨64 * h.val + l / 2, by omega⟩)) * (v1 : EReal)
      = outElt x11 v1 i r (256 * t + 128 * h.val + l) := by
  have h1 : (256 * t + 128 * h.val + l) / 256 = t := by omega
  have h2 : (256 * t + 128 * h.val + l) % 256 = 128 * h.val + l := by omega
  have h3 : (256 * t + 128 * h.val + l) % 2 = l % 2 := by omega
  unfold outElt
  rw [he, ho, h1, h2, h3, hr]
  by_cases hl : l % 2 = 0
  · rw [if_pos hl, hl]
    congr 2 <;> (try dsimp only) <;> omega
  · rw [if_neg hl, show l % 2 = 1 by omega]
    congr 2 <;> (try dsimp only) <;> omega

theorem out_piece (i : Nat) (k t : Nat) (h : Fin 2) (off : Fin 2 → Nat) (hoff : off = ![16 * k, 256 * t + 128 * h.val])
    (hb : ∀ c, off c + ![16, 128] c ≤ S512x2880.size c) {e o : FVec Ideal S16x128 .f32}
    (he : AccAt x11 (512 * i + 16 * k) (256 * t) e)
    (ho : AccAt x11 (512 * i + 16 * k) (256 * t + 128) o) (x : S16x128.Idx) :
    outTile (BitVec.ofNat 32 (64 * h.val)) v1 e o x
      = (fun y : S512x2880.Idx => outElt x11 v1 i (y 0).val (y 1).val) ((Rect.unit (s := S512x2880) off ![16, 128] hb).emb x) := by
  obtain ⟨r, l, rfl⟩ : ∃ (r : Fin 16) (l : Fin 128), x = ix2 r l := ⟨x 0, x 1, eq_ix2 x⟩
  obtain ⟨e0, e1⟩ := emb_unit2 off _ _ hoff hb r l
  dsimp only
  rw [outTile_apply, e0, e1]
  exact outElt_eq x11 v1 h i t _ l.val k l.isLt rfl he ho

theorem out_piece_last (i k : Nat) (off : Fin 2 → Nat) (hoff : off = ![16 * k, 2816])
    (hb : ∀ c, off c + ![16, 64] c ≤ S512x2880.size c) {e o : FVec Ideal S16x128 .f32}
    (he : AccAt x11 (512 * i + 16 * k) 2816 e)
    (ho : AccAt x11 (512 * i + 16 * k) 2944 o) (x : S16x64.Idx) :
    extractStridedSlice S16x64 ![0, 0] (outTile 0#32 v1 e o) slices_S16x128_o0_0_S16x64 x
      = (fun y : S512x2880.Idx => outElt x11 v1 i (y 0).val (y 1).val) ((Rect.unit (s := S512x2880) off ![16, 64] hb).emb x) := by
  obtain ⟨r, l, rfl⟩ : ∃ (r : Fin 16) (l : Fin 64), x = ix2 r l := ⟨x 0, x 1, eq_ix2 x⟩
  obtain ⟨e0, e1⟩ := emb_unit2 off _ _ hoff hb r l
  have e2 : extractStridedSlice S16x64 ![0, 0] (outTile 0#32 v1 e o) slices_S16x128_o0_0_S16x64 (ix2 r l) = outTile 0#32 v1 e o (ix2 r ⟨l.val, by omega⟩) := by
    unfold extractStridedSlice
    congr 1
    funext b
    match b with
    | ⟨0, _⟩ => exact Fin.ext (Nat.zero_add _)
    | ⟨1, _⟩ => exact Fin.ext (Nat.zero_add _)
  dsimp only
  rw [e2, e0, e1]
  exact (outTile_apply 0 v1 e o r ⟨l.val, by omega⟩).trans (outElt_eq x11 v1 0 i 11 _ l.val k (by omega) rfl he ho)

end Pieces

/-- Every piece a trip of the last loop stores holds outputs. -/
theorem trip_t3_pieces (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (v1 : Elt Ideal .f32) (v44 : BitVec 32) (h4 : k0_cond4 i = 1#1)
    (X11 : BufTy.Contents (Elt Ideal) arg11.view.ty) (k : Fin k0_t3_loop.trips) (x11 : S2048x3072.Idx → EReal) (hx11 : arg11.view.read (Elt Ideal) X11 = x11) :
    ∀ p ∈ (trip_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 k).1, ∀ x : p.1.shape.Idx,
      p.2 x = (fun y : S512x2880.Idx => outElt x11 v1 (i 1).val (y 0).val (y 1).val) (p.1.emb x) := by
  unfold trip_k0_t3
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl
  · exact out_piece_last x11 v1 (i 1).val k _ (k0_off99_eq k) (k0_off99_inb i k h4) (accAt_of x11 arg11 X11 hx11 _ _ _ (k0_off97_eq i k) (k0_off97_inb i k h4)) (accAt_of x11 arg11 X11 hx11 _ _ _ (k0_off98_eq i k) (k0_off98_inb i k h4))
  · exact out_piece x11 v1 (i 1).val k 10 1 _ (k0_off96_eq k) (k0_off96_inb i k h4) (accAt_of x11 arg11 X11 hx11 _ _ _ (k0_off93_eq i k) (k0_off93_inb i k h4)) (accAt_of x11 arg11 X11 hx11 _ _ _ (k0_off94_eq i k) (k0_off94_inb i k h4))
  · exact out_piece x11 v1 (i 1).val k 10 0 _ (k0_off95_eq k) (k0_off95_inb i k h4) (accAt_of x11 arg11 X11 hx11 _ _ _ (k0_off93_eq i k) (k0_off93_inb i k h4)) (accAt_of x11 arg11 X11 hx11 _ _ _ (k0_off94_eq i k) (k0_off94_inb i k h4))
  · exact out_piece x11 v1 (i 1).val k 9 1 _ (k0_off92_eq k) (k0_off92_inb i k h4) (accAt_of x11 arg11 X11 hx11 _ _ _ (k0_off89_eq i k) (k0_off89_inb i k h4)) (accAt_of x11 arg11 X11 hx11 _ _ _ (k0_off90_eq i k) (k0_off90_inb i k h4))
  · exact out_piece x11 v1 (i 1).val k 9 0 _ (k0_off91_eq k) (k0_off91_inb i k h4) (accAt_of x11 arg11 X11 hx11 _ _ _ (k0_off89_eq i k) (k0_off89_inb i k h4)) (accAt_of x11 arg11 X11 hx11 _ _ _ (k0_off90_eq i k) (k0_off90_inb i k h4))
  · exact out_piece x11 v1 (i 1).val k 8 1 _ (k0_off88_eq k) (k0_off88_inb i k h4) (accAt_of x11 arg11 X11 hx11 _ _ _ (k0_off85_eq i k) (k0_off85_inb i k h4)) (accAt_of x11 arg11 X11 hx11 _ _ _ (k0_off86_eq i k) (k0_off86_inb i k h4))
  · exact out_piece x11 v1 (i 1).val k 8 0 _ (k0_off87_eq k) (k0_off87_inb i k h4) (accAt_of x11 arg11 X11 hx11 _ _ _ (k0_off85_eq i k) (k0_off85_inb i k h4)) (accAt_of x11 arg11 X11 hx11 _ _ _ (k0_off86_eq i k) (k0_off86_inb i k h4))
  · exact out_piece x11 v1 (i 1).val k 7 1 _ (k0_off84_eq k) (k0_off84_inb i k h4) (accAt_of x11 arg11 X11 hx11 _ _ _ (k0_off81_eq i k) (k0_off81_inb i k h4)) (accAt_of x11 arg11 X11 hx11 _ _ _ (k0_off82_eq i k) (k0_off82_inb i k h4))
  · exact out_piece x11 v1 (i 1).val k 7 0 _ (k0_off83_eq k) (k0_off83_inb i k h4) (accAt_of x11 arg11 X11 hx11 _ _ _ (k0_off81_eq i k) (k0_off81_inb i k h4)) (accAt_of x11 arg11 X11 hx11 _ _ _ (k0_off82_eq i k) (k0_off82_inb i k h4))
  · exact out_piece x11 v1 (i 1).val k 6 1 _ (k0_off80_eq k) (k0_off80_inb i k h4) (accAt_of x11 arg11 X11 hx11 _ _ _ (k0_off77_eq i k) (k0_off77_inb i k h4)) (accAt_of x11 arg11 X11 hx11 _ _ _ (k0_off78_eq i k) (k0_off78_inb i k h4))
  · exact out_piece x11 v1 (i 1).val k 6 0 _ (k0_off79_eq k) (k0_off79_inb i k h4) (accAt_of x11 arg11 X11 hx11 _ _ _ (k0_off77_eq i k) (k0_off77_inb i k h4)) (accAt_of x11 arg11 X11 hx11 _ _ _ (k0_off78_eq i k) (k0_off78_inb i k h4))
  · exact out_piece x11 v1 (i 1).val k 5 1 _ (k0_off76_eq k) (k0_off76_inb i k h4) (accAt_of x11 arg11 X11 hx11 _ _ _ (k0_off73_eq i k) (k0_off73_inb i k h4)) (accAt_of x11 arg11 X11 hx11 _ _ _ (k0_off74_eq i k) (k0_off74_inb i k h4))
  · exact out_piece x11 v1 (i 1).val k 5 0 _ (k0_off75_eq k) (k0_off75_inb i k h4) (accAt_of x11 arg11 X11 hx11 _ _ _ (k0_off73_eq i k) (k0_off73_inb i k h4)) (accAt_of x11 arg11 X11 hx11 _ _ _ (k0_off74_eq i k) (k0_off74_inb i k h4))
  · exact out_piece x11 v1 (i 1).val k 4 1 _ (k0_off72_eq k) (k0_off72_inb i k h4) (accAt_of x11 arg11 X11 hx11 _ _ _ (k0_off69_eq i k) (k0_off69_inb i k h4)) (accAt_of x11 arg11 X11 hx11 _ _ _ (k0_off70_eq i k) (k0_off70_inb i k h4))
  · exact out_piece x11 v1 (i 1).val k 4 0 _ (k0_off71_eq k) (k0_off71_inb i k h4) (accAt_of x11 arg11 X11 hx11 _ _ _ (k0_off69_eq i k) (k0_off69_inb i k h4)) (accAt_of x11 arg11 X11 hx11 _ _ _ (k0_off70_eq i k) (k0_off70_inb i k h4))
  · exact out_piece x11 v1 (i 1).val k 3 1 _ (k0_off68_eq k) (k0_off68_inb i k h4) (accAt_of x11 arg11 X11 hx11 _ _ _ (k0_off65_eq i k) (k0_off65_inb i k h4)) (accAt_of x11 arg11 X11 hx11 _ _ _ (k0_off66_eq i k) (k0_off66_inb i k h4))
  · exact out_piece x11 v1 (i 1).val k 3 0 _ (k0_off67_eq k) (k0_off67_inb i k h4) (accAt_of x11 arg11 X11 hx11 _ _ _ (k0_off65_eq i k) (k0_off65_inb i k h4)) (accAt_of x11 arg11 X11 hx11 _ _ _ (k0_off66_eq i k) (k0_off66_inb i k h4))
  · exact out_piece x11 v1 (i 1).val k 2 1 _ (k0_off64_eq k) (k0_off64_inb i k h4) (accAt_of x11 arg11 X11 hx11 _ _ _ (k0_off61_eq i k) (k0_off61_inb i k h4)) (accAt_of x11 arg11 X11 hx11 _ _ _ (k0_off62_eq i k) (k0_off62_inb i k h4))
  · exact out_piece x11 v1 (i 1).val k 2 0 _ (k0_off63_eq k) (k0_off63_inb i k h4) (accAt_of x11 arg11 X11 hx11 _ _ _ (k0_off61_eq i k) (k0_off61_inb i k h4)) (accAt_of x11 arg11 X11 hx11 _ _ _ (k0_off62_eq i k) (k0_off62_inb i k h4))
  · exact out_piece x11 v1 (i 1).val k 1 1 _ (k0_off60_eq k) (k0_off60_inb i k h4) (accAt_of x11 arg11 X11 hx11 _ _ _ (k0_off57_eq i k) (k0_off57_inb i k h4)) (accAt_of x11 arg11 X11 hx11 _ _ _ (k0_off58_eq i k) (k0_off58_inb i k h4))
  · exact out_piece x11 v1 (i 1).val k 1 0 _ (k0_off59_eq k) (k0_off59_inb i k h4) (accAt_of x11 arg11 X11 hx11 _ _ _ (k0_off57_eq i k) (k0_off57_inb i k h4)) (accAt_of x11 arg11 X11 hx11 _ _ _ (k0_off58_eq i k) (k0_off58_inb i k h4))
  · exact out_piece x11 v1 (i 1).val k 0 1 _ (k0_off56_eq k) (k0_off56_inb i k h4) (accAt_of x11 arg11 X11 hx11 _ _ _ (k0_off53_eq i k) (k0_off53_inb i k h4)) (accAt_of x11 arg11 X11 hx11 _ _ _ (k0_off54_eq i k) (k0_off54_inb i k h4))
  · exact out_piece x11 v1 (i 1).val k 0 0 _ (k0_off55_eq k) (k0_off55_inb i k h4) (accAt_of x11 arg11 X11 hx11 _ _ _ (k0_off53_eq i k) (k0_off53_inb i k h4)) (accAt_of x11 arg11 X11 hx11 _ _ _ (k0_off54_eq i k) (k0_off54_inb i k h4))

theorem trip_t3_cover (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (v1 : Elt Ideal .f32) (v44 : BitVec 32) (h4 : k0_cond4 i = 1#1)
    (X11 : BufTy.Contents (Elt Ideal) arg11.view.ty) (k : Fin k0_t3_loop.trips)
    (y : S512x2880.Idx) (h0 : 16 * k.val ≤ (y 0).val) (h0' : (y 0).val < 16 * k.val + 16) :
    ∃ P ∈ (trip_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 k).1, y ∈ P.1.set := by
  unfold trip_k0_t3
  dsimp only
  refine cover_cons (16 * k.val) 2816 (k0_off99_eq k) fun _ => ?_
  refine cover_cons (16 * k.val) 2688 (k0_off96_eq k) fun _ => ?_
  refine cover_cons (16 * k.val) 2560 (k0_off95_eq k) fun _ => ?_
  refine cover_cons (16 * k.val) 2432 (k0_off92_eq k) fun _ => ?_
  refine cover_cons (16 * k.val) 2304 (k0_off91_eq k) fun _ => ?_
  refine cover_cons (16 * k.val) 2176 (k0_off88_eq k) fun _ => ?_
  refine cover_cons (16 * k.val) 2048 (k0_off87_eq k) fun _ => ?_
  refine cover_cons (16 * k.val) 1920 (k0_off84_eq k) fun _ => ?_
  refine cover_cons (16 * k.val) 1792 (k0_off83_eq k) fun _ => ?_
  refine cover_cons (16 * k.val) 1664 (k0_off80_eq k) fun _ => ?_
  refine cover_cons (16 * k.val) 1536 (k0_off79_eq k) fun _ => ?_
  refine cover_cons (16 * k.val) 1408 (k0_off76_eq k) fun _ => ?_
  refine cover_cons (16 * k.val) 1280 (k0_off75_eq k) fun _ => ?_
  refine cover_cons (16 * k.val) 1152 (k0_off72_eq k) fun _ => ?_
  refine cover_cons (16 * k.val) 1024 (k0_off71_eq k) fun _ => ?_
  refine cover_cons (16 * k.val) 896 (k0_off68_eq k) fun _ => ?_
  refine cover_cons (16 * k.val) 768 (k0_off67_eq k) fun _ => ?_
  refine cover_cons (16 * k.val) 640 (k0_off64_eq k) fun _ => ?_
  refine cover_cons (16 * k.val) 512 (k0_off63_eq k) fun _ => ?_
  refine cover_cons (16 * k.val) 384 (k0_off60_eq k) fun _ => ?_
  refine cover_cons (16 * k.val) 256 (k0_off59_eq k) fun _ => ?_
  refine cover_cons (16 * k.val) 128 (k0_off56_eq k) fun _ => ?_
  refine cover_cons (16 * k.val) 0 (k0_off55_eq k) fun _ => ?_
  have : (y 1).val < 2880 := idx2_lt1 y
  omega

/-- After the last loop the output block holds the scaled accumulator rows, whatever it held before. -/
theorem t3_read (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (v1 : Elt Ideal .f32) (v44 : BitVec 32) (h4 : k0_cond4 i = 1#1)
    (X11 : BufTy.Contents (Elt Ideal) arg11.view.ty)
    (x11 : S2048x3072.Idx → EReal) (hx11 : arg11.view.read (Elt Ideal) X11 = x11) (f : BufTy.Contents (Elt Ideal) arg8.view.ty) :
    arg8.view.read (Elt Ideal) (arg8.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 k0_t3_loop.trips))
      = fun y => outElt x11 v1 (i 1).val (y 0).val (y 1).val := by
  have main : ∀ n, n ≤ k0_t3_loop.trips →
      (∀ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 n, ∀ x : p.1.shape.Idx,
        p.2 x = (fun y : S512x2880.Idx => outElt x11 v1 (i 1).val (y 0).val (y 1).val) (p.1.emb x)) ∧
      (∀ y : S512x2880.Idx, (y 0).val < 16 * n → ∃ P ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 n, y ∈ P.1.set) := by
    intro n
    induction n with
    | zero => exact fun _ => ⟨fun p hp => absurd hp List.not_mem_nil, fun y hy => absurd hy (by omega)⟩
    | succ n ih =>
      intro hn
      obtain ⟨ih1, ih2⟩ := ih (by omega)
      rw [pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 ⟨n, hn⟩]
      refine ⟨fun p hp => ?_, fun y hy => ?_⟩
      · rcases List.mem_append.1 hp with h | h
        · exact trip_t3_pieces 𝒱 c bd i arg2 harg2 arg3 harg3 arg4 harg4 arg5 harg5 arg6 harg6 arg7 harg7 arg8 harg8 arg9 harg9 arg10 harg10 arg11 harg11 arg12 harg12 arg13 harg13 v1 v44 h4 X11 ⟨n, hn⟩ x11 hx11 p h
        · exact ih1 p h
      · by_cases hlt : (y 0).val < 16 * n
        · obtain ⟨P, hP, hm⟩ := ih2 y hlt
          exact ⟨P, List.mem_append_right _ hP, hm⟩
        · obtain ⟨P, hP, hm⟩ := trip_t3_cover 𝒱 c bd i arg2 harg2 arg3 harg3 arg4 harg4 arg5 harg5 arg6 harg6 arg7 harg7 arg8 harg8 arg9 harg9 arg10 harg10 arg11 harg11 arg12 harg12 arg13 harg13 v1 v44 h4 X11 ⟨n, hn⟩ y (by show 16 * n ≤ _; omega) (by show _ < 16 * n + 16; omega)
          exact ⟨P, List.mem_append_left _ hP, hm⟩
  obtain ⟨m1, m2⟩ := main _ le_rfl
  funext y
  refine View.read_writes_apply_of_pieces _ f (fun y : S512x2880.Idx => outElt x11 v1 (i 1).val (y 0).val (y 1).val) _ m1 y (m2 y ?_)
  have : (y 0).val < 512 := idx2_lt0 y
  have ht : k0_t3_loop.trips = 32 := by decide +kernel
  omega

end Cert.KernelIdeal.Gen
end
-- ==== Proof.QuantLoop.lean ====
module
public import proofs.«01_k».proof.Proof.Quant
public import proofs.«01_k».proof.Proof.Weights

/-! The quantiser loop read as a whole: the code bytes and the dequantised values of a block. -/

@[expose] public section
set_option maxRecDepth 65536
set_option maxHeartbeats 200000
noncomputable section
namespace Cert.KernelIdeal.Gen
open Idealize.ShloMosaic Idealize.ShloMosaic.TcCoe Idealize.ShloMosaic.Tactic Idealize.ShloMosaic.ValueIdx
open Idealize.SL Idealize.SL.RA Idealize.SL.BI

open scoped Idealize.SL.BI
open Idealize.SL.BI.BIBase Idealize.SL.BI.Laws Idealize.SL.ProofMode Idealize.SL.Sem

section Shape
variable {F : FTy → Type} [FloatOps F]

/-- A tile's quantised bytes before they become words. -/
def nTile (g : F .f32) (v26 : BitVec 32) (v27 : IVec S32x128 32) (c : BitVec 32) (X3 : FVec F S32x128 .bf16) (X4 : IVec S32x128 32) (sf : FVec F S32x128 .f32) : IVec S32x128 8 :=
  qN X3 (gather32 (qR g sf) (laneIdx 16#32 (IntOp.addi v26 c) v27)) X4

/-- A tile's dequantised values. -/
def dyTile (g : F .f32) (v26 : BitVec 32) (v27 : IVec S32x128 32) (c : BitVec 32) (X3 : FVec F S32x128 .bf16) (X4 : IVec S32x128 32) (sf : FVec F S32x128 .f32) : FVec F S32x128 .bf16 :=
  qVal (qMagW (nTile g v26 v27 c X3 X4 sf)) (bitcast S8x128 32 (qSg X3) bitcasts_S32x128_w8_S8x128_w32) (gather32 (qS64 sf) (laneIdx 16#32 (IntOp.addi v26 c) v27))

/-- The packed codes of two neighbouring tiles. -/
def coTile (g : F .f32) (v26 : BitVec 32) (v27 : IVec S32x128 32) (v32 : IVec S8x128 1) (sq : IVec S8x128 32) (c d : BitVec 32)
    (X3 : FVec F S32x128 .bf16) (X4 : IVec S32x128 32) (Y3 : FVec F S32x128 .bf16) (Y4 : IVec S32x128 32) (sf : FVec F S32x128 .f32) : IVec S32x128 8 :=
  qPackW v32 sq (qCodeW (qMagW (nTile g v26 v27 c X3 X4 sf)) (bitcast S8x128 32 (qSg X3) bitcasts_S32x128_w8_S8x128_w32))
    (qCodeW (qMagW (nTile g v26 v27 d Y3 Y4 sf)) (bitcast S8x128 32 (qSg Y3) bitcasts_S32x128_w8_S8x128_w32))

/-- The code pieces a trip stores, last first. -/
def codesList (g : F .f32) (v26 : BitVec 32) (v27 : IVec S32x128 32) (v28 : IVec S8x128 32) (v32 : IVec S8x128 1) (c64 : BitVec 32) (k : Fin k0_t2_loop.trips) (arg3 : Memref sig .tc .vmem S512x1024 .bf16) (arg4 : Memref sig .tc .vmem S512x1024 .i32) (arg10 : Memref sig .tc .vmem S512x128 .fp8e4m3) (X3 : BufTy.Contents (Elt F) arg3.view.ty) (X4 : BufTy.Contents (Elt F) arg4.view.ty) (X10 : BufTy.Contents (Elt F) arg10.view.ty) : List (View.Piece (Elt F) S512x512 .i8) :=
  [⟨Rect.unit (s := S512x512) (k0_off50 k) ![32, 128] (k0_off50_inb k), coTile g v26 v27 v32 (k0_pay1 v28 c64) 48#32 56#32 (arg3.view.readAt (Elt F) (Rect.unit (s := S512x1024) (k0_off48 k) ![32, 128] (k0_off48_inb k)).toLoadRect X3) (arg4.view.readAt (Elt F) (Rect.unit (s := S512x1024) (k0_off48 k) ![32, 128] (k0_off48_inb k)).toLoadRect X4) (arg3.view.readAt (Elt F) (Rect.unit (s := S512x1024) (k0_off49 k) ![32, 128] (k0_off49_inb k)).toLoadRect X3) (arg4.view.readAt (Elt F) (Rect.unit (s := S512x1024) (k0_off49 k) ![32, 128] (k0_off49_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x512) (k0_off47 k) ![32, 128] (k0_off47_inb k), coTile g v26 v27 v32 (k0_pay1 v28 c64) 32#32 40#32 (arg3.view.readAt (Elt F) (Rect.unit (s := S512x1024) (k0_off45 k) ![32, 128] (k0_off45_inb k)).toLoadRect X3) (arg4.view.readAt (Elt F) (Rect.unit (s := S512x1024) (k0_off45 k) ![32, 128] (k0_off45_inb k)).toLoadRect X4) (arg3.view.readAt (Elt F) (Rect.unit (s := S512x1024) (k0_off46 k) ![32, 128] (k0_off46_inb k)).toLoadRect X3) (arg4.view.readAt (Elt F) (Rect.unit (s := S512x1024) (k0_off46 k) ![32, 128] (k0_off46_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x512) (k0_off44 k) ![32, 128] (k0_off44_inb k), coTile g v26 v27 v32 (k0_pay1 v28 c64) 16#32 24#32 (arg3.view.readAt (Elt F) (Rect.unit (s := S512x1024) (k0_off42 k) ![32, 128] (k0_off42_inb k)).toLoadRect X3) (arg4.view.readAt (Elt F) (Rect.unit (s := S512x1024) (k0_off42 k) ![32, 128] (k0_off42_inb k)).toLoadRect X4) (arg3.view.readAt (Elt F) (Rect.unit (s := S512x1024) (k0_off43 k) ![32, 128] (k0_off43_inb k)).toLoadRect X3) (arg4.view.readAt (Elt F) (Rect.unit (s := S512x1024) (k0_off43 k) ![32, 128] (k0_off43_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x512) (k0_off41 k) ![32, 128] (k0_off41_inb k), coTile g v26 v27 v32 (k0_pay1 v28 c64) 0#32 8#32 (arg3.view.readAt (Elt F) (Rect.unit (s := S512x1024) (k0_off39 k) ![32, 128] (k0_off39_inb k)).toLoadRect X3) (arg4.view.readAt (Elt F) (Rect.unit (s := S512x1024) (k0_off39 k) ![32, 128] (k0_off39_inb k)).toLoadRect X4) (arg3.view.readAt (Elt F) (Rect.unit (s := S512x1024) (k0_off40 k) ![32, 128] (k0_off40_inb k)).toLoadRect X3) (arg4.view.readAt (Elt F) (Rect.unit (s := S512x1024) (k0_off40 k) ![32, 128] (k0_off40_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩]

/-- The value pieces a trip stores, last first. -/
def dysList (g : F .f32) (v26 : BitVec 32) (v27 : IVec S32x128 32) (k : Fin k0_t2_loop.trips) (arg3 : Memref sig .tc .vmem S512x1024 .bf16) (arg4 : Memref sig .tc .vmem S512x1024 .i32) (arg10 : Memref sig .tc .vmem S512x128 .fp8e4m3) (X3 : BufTy.Contents (Elt F) arg3.view.ty) (X4 : BufTy.Contents (Elt F) arg4.view.ty) (X10 : BufTy.Contents (Elt F) arg10.view.ty) : List (View.Piece (Elt F) S512x1024 .bf16) :=
  [⟨Rect.unit (s := S512x1024) (k0_off49 k) ![32, 128] (k0_off49_inb k), dyTile g v26 v27 56#32 (arg3.view.readAt (Elt F) (Rect.unit (s := S512x1024) (k0_off49 k) ![32, 128] (k0_off49_inb k)).toLoadRect X3) (arg4.view.readAt (Elt F) (Rect.unit (s := S512x1024) (k0_off49 k) ![32, 128] (k0_off49_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off48 k) ![32, 128] (k0_off48_inb k), dyTile g v26 v27 48#32 (arg3.view.readAt (Elt F) (Rect.unit (s := S512x1024) (k0_off48 k) ![32, 128] (k0_off48_inb k)).toLoadRect X3) (arg4.view.readAt (Elt F) (Rect.unit (s := S512x1024) (k0_off48 k) ![32, 128] (k0_off48_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off46 k) ![32, 128] (k0_off46_inb k), dyTile g v26 v27 40#32 (arg3.view.readAt (Elt F) (Rect.unit (s := S512x1024) (k0_off46 k) ![32, 128] (k0_off46_inb k)).toLoadRect X3) (arg4.view.readAt (Elt F) (Rect.unit (s := S512x1024) (k0_off46 k) ![32, 128] (k0_off46_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off45 k) ![32, 128] (k0_off45_inb k), dyTile g v26 v27 32#32 (arg3.view.readAt (Elt F) (Rect.unit (s := S512x1024) (k0_off45 k) ![32, 128] (k0_off45_inb k)).toLoadRect X3) (arg4.view.readAt (Elt F) (Rect.unit (s := S512x1024) (k0_off45 k) ![32, 128] (k0_off45_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off43 k) ![32, 128] (k0_off43_inb k), dyTile g v26 v27 24#32 (arg3.view.readAt (Elt F) (Rect.unit (s := S512x1024) (k0_off43 k) ![32, 128] (k0_off43_inb k)).toLoadRect X3) (arg4.view.readAt (Elt F) (Rect.unit (s := S512x1024) (k0_off43 k) ![32, 128] (k0_off43_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off42 k) ![32, 128] (k0_off42_inb k), dyTile g v26 v27 16#32 (arg3.view.readAt (Elt F) (Rect.unit (s := S512x1024) (k0_off42 k) ![32, 128] (k0_off42_inb k)).toLoadRect X3) (arg4.view.readAt (Elt F) (Rect.unit (s := S512x1024) (k0_off42 k) ![32, 128] (k0_off42_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off40 k) ![32, 128] (k0_off40_inb k), dyTile g v26 v27 8#32 (arg3.view.readAt (Elt F) (Rect.unit (s := S512x1024) (k0_off40 k) ![32, 128] (k0_off40_inb k)).toLoadRect X3) (arg4.view.readAt (Elt F) (Rect.unit (s := S512x1024) (k0_off40 k) ![32, 128] (k0_off40_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩, ⟨Rect.unit (s := S512x1024) (k0_off39 k) ![32, 128] (k0_off39_inb k), dyTile g v26 v27 0#32 (arg3.view.readAt (Elt F) (Rect.unit (s := S512x1024) (k0_off39 k) ![32, 128] (k0_off39_inb k)).toLoadRect X3) (arg4.view.readAt (Elt F) (Rect.unit (s := S512x1024) (k0_off39 k) ![32, 128] (k0_off39_inb k)).toLoadRect X4) (extf .f32 (shapeCast S32x128 (arg10.view.readAt (Elt F) (Rect.unit (s := S512x128) (k0_off38 k) ![32, 128] (k0_off38_inb k)).toLoadRect X10) shapeCasts_S32x128_S32x128) bitsLt_fp8e4m3_f32)⟩]

theorem trip_t2_codes (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (g : F .f32) (v26 : BitVec 32) (v27 : IVec S32x128 32) (v28 : IVec S8x128 32) (v32 : IVec S8x128 1) (c64 : BitVec 32) (X3 : BufTy.Contents (Elt F) arg3.view.ty) (X4 : BufTy.Contents (Elt F) arg4.view.ty) (X10 : BufTy.Contents (Elt F) arg10.view.ty) (k : Fin k0_t2_loop.trips) : (trip_k0_t2 (F := F) 𝒱 c bd i arg2 harg2 arg3 harg3 arg4 harg4 arg5 harg5 arg6 harg6 arg7 harg7 arg8 harg8 arg9 harg9 arg10 harg10 arg11 harg11 arg12 harg12 arg13 harg13 g v26 v27 v28 v32 c64 X3 X4 X10 k).1 = codesList g v26 v27 v28 v32 c64 k arg3 arg4 arg10 X3 X4 X10 := by
  unfold trip_k0_t2
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))
  · rfl
  · rfl
  · rfl
  · rfl

theorem trip_t2_dys (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (g : F .f32) (v26 : BitVec 32) (v27 : IVec S32x128 32) (v28 : IVec S8x128 32) (v32 : IVec S8x128 1) (c64 : BitVec 32) (X3 : BufTy.Contents (Elt F) arg3.view.ty) (X4 : BufTy.Contents (Elt F) arg4.view.ty) (X10 : BufTy.Contents (Elt F) arg10.view.ty) (k : Fin k0_t2_loop.trips) : (trip_k0_t2 (F := F) 𝒱 c bd i arg2 harg2 arg3 harg3 arg4 harg4 arg5 harg5 arg6 harg6 arg7 harg7 arg8 harg8 arg9 harg9 arg10 harg10 arg11 harg11 arg12 harg12 arg13 harg13 g v26 v27 v28 v32 c64 X3 X4 X10 k).2.1 = dysList g v26 v27 k arg3 arg4 arg10 X3 X4 X10 := by
  unfold trip_k0_t2
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  · rfl
  · rfl
  · rfl
  · rfl
  · rfl
  · rfl
  · rfl
  · rfl
end Shape

/-- The code bytes of a block. -/
abbrev codesG (u : Fin 2) (g : EReal) (x3 : S512x1024.Idx → EReal) (x4 : S512x1024.Idx → BitVec 32) (s8 : S512x128.Idx → EReal) : S512x512.Idx → BitVec 8 :=
  fun y => qByte (64 * u.val) g x3 x4 s8 (y 0).val (y 1).val
/-- The dequantised values of a block. -/
abbrev dysG (u : Fin 2) (g : EReal) (x3 : S512x1024.Idx → EReal) (x4 : S512x1024.Idx → BitVec 32) (s8 : S512x128.Idx → EReal) : S512x1024.Idx → EReal :=
  fun y => qDy (64 * u.val) g x3 x4 s8 (y 0).val (y 1).val

theorem loadAt_cast {s8 : S512x128.Idx → EReal} {k : Nat} {X : FVec Ideal S32x128 .fp8e4m3} (h : LoadAt s8 0 k 0 X) :
    LoadAt s8 0 k 0 (extf (F := Ideal) .f32 (shapeCast S32x128 X shapeCasts_S32x128_S32x128) bitsLt_fp8e4m3_f32) := by
  rw [shapeCast_self]
  exact h

theorem dyTile_piece (u : Fin 2) (g : EReal) (x3 : S512x1024.Idx → EReal) (x4 : S512x1024.Idx → BitVec 32) (s8 : S512x128.Idx → EReal)
    (k : Nat) (t : Fin 8) (cw : BitVec 32) (hc : cw = BitVec.ofNat 32 (8 * t.val)) {X3 : FVec Ideal S32x128 .bf16} {X4 : IVec S32x128 32} {sf : FVec Ideal S32x128 .f32}
    (h3 : LoadAt x3 0 k (128 * t.val) X3) (h4 : LoadAt x4 0 k (128 * t.val) X4) (hs : LoadAt s8 0 k 0 sf)
    (off : Fin 2 → Nat) (ho : off = ![32 * k, 128 * t.val]) (h : ∀ c, off c + ![32, 128] c ≤ S512x1024.size c) (x : S32x128.Idx) :
    dyTile (F := Ideal) g (BitVec.ofNat 32 (64 * u.val)) lanes32 cw X3 X4 sf x = dysG u g x3 x4 s8 ((Rect.unit (s := S512x1024) off ![32, 128] h).emb x) := by
  subst hc
  exact dy_piece u g x3 x4 s8 k t h3 h4 hs off ho h x

theorem coTile_piece (u : Fin 2) (g : EReal) (x3 : S512x1024.Idx → EReal) (x4 : S512x1024.Idx → BitVec 32) (s8 : S512x128.Idx → EReal)
    (k : Nat) (t : Fin 4) (te tq : Fin 8) (hte : te.val = 2 * t.val) (htq : tq.val = 2 * t.val + 1)
    (cw dw : BitVec 32) (hc : cw = BitVec.ofNat 32 (8 * te.val)) (hd : dw = BitVec.ofNat 32 (8 * tq.val))
    {X3 Y3 : FVec Ideal S32x128 .bf16} {X4 Y4 : IVec S32x128 32} {sf : FVec Ideal S32x128 .f32}
    (h3 : LoadAt x3 0 k (128 * te.val) X3) (h4 : LoadAt x4 0 k (128 * te.val) X4)
    (k3 : LoadAt x3 0 k (128 * tq.val) Y3) (k4 : LoadAt x4 0 k (128 * tq.val) Y4) (hs : LoadAt s8 0 k 0 sf)
    (off : Fin 2 → Nat) (ho : off = ![32 * k, 128 * t.val]) (h : ∀ c, off c + ![32, 128] c ≤ S512x512.size c) (x : S32x128.Idx) :
    coTile (F := Ideal) g (BitVec.ofNat 32 (64 * u.val)) lanes32 evens (k0_pay1 lanes8 64#32) cw dw X3 X4 Y3 Y4 sf x = codesG u g x3 x4 s8 ((Rect.unit (s := S512x512) off ![32, 128] h).emb x) := by
  subst hc hd
  exact code_piece u g x3 x4 s8 k t te tq hte htq h3 h4 k3 k4 hs off ho h x

theorem codesList_pieces (g : EReal) (u : Fin 2) (k : Fin k0_t2_loop.trips) (arg3 : Memref sig .tc .vmem S512x1024 .bf16) (arg4 : Memref sig .tc .vmem S512x1024 .i32) (arg10 : Memref sig .tc .vmem S512x128 .fp8e4m3) (X3 : BufTy.Contents (Elt Ideal) arg3.view.ty) (X4 : BufTy.Contents (Elt Ideal) arg4.view.ty) (X10 : BufTy.Contents (Elt Ideal) arg10.view.ty)
    (x3 : S512x1024.Idx → EReal) (x4 : S512x1024.Idx → BitVec 32) (s8 : S512x128.Idx → EReal)
    (hx3 : arg3.view.read (Elt Ideal) X3 = x3) (hx4 : arg4.view.read (Elt Ideal) X4 = x4) (hs8 : arg10.view.read (Elt Ideal) X10 = s8) :
    ∀ p ∈ codesList (F := Ideal) g (BitVec.ofNat 32 (64 * u.val)) lanes32 lanes8 evens 64#32 k arg3 arg4 arg10 X3 X4 X10, ∀ x : p.1.shape.Idx, p.2 x = codesG u g x3 x4 s8 (p.1.emb x) := by
  have hs := loadAt_cast (loadAt_of arg10 X10 s8 0 hs8 k.val 0 _ (k0_off38_eq k) (k0_off38_inb k))
  have a0 := loadAt_of arg3 X3 x3 0 hx3 k.val 0 _ (k0_off39_eq k) (k0_off39_inb k)
  have b0 := loadAt_of arg4 X4 x4 0 hx4 k.val 0 _ (k0_off39_eq k) (k0_off39_inb k)
  have a1 := loadAt_of arg3 X3 x3 0 hx3 k.val 128 _ (k0_off40_eq k) (k0_off40_inb k)
  have b1 := loadAt_of arg4 X4 x4 0 hx4 k.val 128 _ (k0_off40_eq k) (k0_off40_inb k)
  have a2 := loadAt_of arg3 X3 x3 0 hx3 k.val 256 _ (k0_off42_eq k) (k0_off42_inb k)
  have b2 := loadAt_of arg4 X4 x4 0 hx4 k.val 256 _ (k0_off42_eq k) (k0_off42_inb k)
  have a3 := loadAt_of arg3 X3 x3 0 hx3 k.val 384 _ (k0_off43_eq k) (k0_off43_inb k)
  have b3 := loadAt_of arg4 X4 x4 0 hx4 k.val 384 _ (k0_off43_eq k) (k0_off43_inb k)
  have a4 := loadAt_of arg3 X3 x3 0 hx3 k.val 512 _ (k0_off45_eq k) (k0_off45_inb k)
  have b4 := loadAt_of arg4 X4 x4 0 hx4 k.val 512 _ (k0_off45_eq k) (k0_off45_inb k)
  have a5 := loadAt_of arg3 X3 x3 0 hx3 k.val 640 _ (k0_off46_eq k) (k0_off46_inb k)
  have b5 := loadAt_of arg4 X4 x4 0 hx4 k.val 640 _ (k0_off46_eq k) (k0_off46_inb k)
  have a6 := loadAt_of arg3 X3 x3 0 hx3 k.val 768 _ (k0_off48_eq k) (k0_off48_inb k)
  have b6 := loadAt_of arg4 X4 x4 0 hx4 k.val 768 _ (k0_off48_eq k) (k0_off48_inb k)
  have a7 := loadAt_of arg3 X3 x3 0 hx3 k.val 896 _ (k0_off49_eq k) (k0_off49_inb k)
  have b7 := loadAt_of arg4 X4 x4 0 hx4 k.val 896 _ (k0_off49_eq k) (k0_off49_inb k)
  unfold codesList
  refine List.forall_mem_cons.2 ⟨fun x => coTile_piece u g x3 x4 s8 k 3 6 7 rfl rfl _ _ rfl rfl a6 b6 a7 b7 hs _ (k0_off50_eq k) (k0_off50_inb k) x, ?_⟩
  refine List.forall_mem_cons.2 ⟨fun x => coTile_piece u g x3 x4 s8 k 2 4 5 rfl rfl _ _ rfl rfl a4 b4 a5 b5 hs _ (k0_off47_eq k) (k0_off47_inb k) x, ?_⟩
  refine List.forall_mem_cons.2 ⟨fun x => coTile_piece u g x3 x4 s8 k 1 2 3 rfl rfl _ _ rfl rfl a2 b2 a3 b3 hs _ (k0_off44_eq k) (k0_off44_inb k) x, ?_⟩
  refine List.forall_mem_cons.2 ⟨fun x => coTile_piece u g x3 x4 s8 k 0 0 1 rfl rfl _ _ rfl rfl a0 b0 a1 b1 hs _ (k0_off41_eq k) (k0_off41_inb k) x, ?_⟩
  exact fun p hp => absurd hp List.not_mem_nil

theorem dysList_pieces (g : EReal) (u : Fin 2) (k : Fin k0_t2_loop.trips) (arg3 : Memref sig .tc .vmem S512x1024 .bf16) (arg4 : Memref sig .tc .vmem S512x1024 .i32) (arg10 : Memref sig .tc .vmem S512x128 .fp8e4m3) (X3 : BufTy.Contents (Elt Ideal) arg3.view.ty) (X4 : BufTy.Contents (Elt Ideal) arg4.view.ty) (X10 : BufTy.Contents (Elt Ideal) arg10.view.ty)
    (x3 : S512x1024.Idx → EReal) (x4 : S512x1024.Idx → BitVec 32) (s8 : S512x128.Idx → EReal)
    (hx3 : arg3.view.read (Elt Ideal) X3 = x3) (hx4 : arg4.view.read (Elt Ideal) X4 = x4) (hs8 : arg10.view.read (Elt Ideal) X10 = s8) :
    ∀ p ∈ dysList (F := Ideal) g (BitVec.ofNat 32 (64 * u.val)) lanes32 k arg3 arg4 arg10 X3 X4 X10, ∀ x : p.1.shape.Idx, p.2 x = dysG u g x3 x4 s8 (p.1.emb x) := by
  have hs := loadAt_cast (loadAt_of arg10 X10 s8 0 hs8 k.val 0 _ (k0_off38_eq k) (k0_off38_inb k))
  have a0 := loadAt_of arg3 X3 x3 0 hx3 k.val 0 _ (k0_off39_eq k) (k0_off39_inb k)
  have b0 := loadAt_of arg4 X4 x4 0 hx4 k.val 0 _ (k0_off39_eq k) (k0_off39_inb k)
  have a1 := loadAt_of arg3 X3 x3 0 hx3 k.val 128 _ (k0_off40_eq k) (k0_off40_inb k)
  have b1 := loadAt_of arg4 X4 x4 0 hx4 k.val 128 _ (k0_off40_eq k) (k0_off40_inb k)
  have a2 := loadAt_of arg3 X3 x3 0 hx3 k.val 256 _ (k0_off42_eq k) (k0_off42_inb k)
  have b2 := loadAt_of arg4 X4 x4 0 hx4 k.val 256 _ (k0_off42_eq k) (k0_off42_inb k)
  have a3 := loadAt_of arg3 X3 x3 0 hx3 k.val 384 _ (k0_off43_eq k) (k0_off43_inb k)
  have b3 := loadAt_of arg4 X4 x4 0 hx4 k.val 384 _ (k0_off43_eq k) (k0_off43_inb k)
  have a4 := loadAt_of arg3 X3 x3 0 hx3 k.val 512 _ (k0_off45_eq k) (k0_off45_inb k)
  have b4 := loadAt_of arg4 X4 x4 0 hx4 k.val 512 _ (k0_off45_eq k) (k0_off45_inb k)
  have a5 := loadAt_of arg3 X3 x3 0 hx3 k.val 640 _ (k0_off46_eq k) (k0_off46_inb k)
  have b5 := loadAt_of arg4 X4 x4 0 hx4 k.val 640 _ (k0_off46_eq k) (k0_off46_inb k)
  have a6 := loadAt_of arg3 X3 x3 0 hx3 k.val 768 _ (k0_off48_eq k) (k0_off48_inb k)
  have b6 := loadAt_of arg4 X4 x4 0 hx4 k.val 768 _ (k0_off48_eq k) (k0_off48_inb k)
  have a7 := loadAt_of arg3 X3 x3 0 hx3 k.val 896 _ (k0_off49_eq k) (k0_off49_inb k)
  have b7 := loadAt_of arg4 X4 x4 0 hx4 k.val 896 _ (k0_off49_eq k) (k0_off49_inb k)
  unfold dysList
  refine List.forall_mem_cons.2 ⟨fun x => dyTile_piece u g x3 x4 s8 k 7 _ rfl a7 b7 hs _ (k0_off49_eq k) (k0_off49_inb k) x, ?_⟩
  refine List.forall_mem_cons.2 ⟨fun x => dyTile_piece u g x3 x4 s8 k 6 _ rfl a6 b6 hs _ (k0_off48_eq k) (k0_off48_inb k) x, ?_⟩
  refine List.forall_mem_cons.2 ⟨fun x => dyTile_piece u g x3 x4 s8 k 5 _ rfl a5 b5 hs _ (k0_off46_eq k) (k0_off46_inb k) x, ?_⟩
  refine List.forall_mem_cons.2 ⟨fun x => dyTile_piece u g x3 x4 s8 k 4 _ rfl a4 b4 hs _ (k0_off45_eq k) (k0_off45_inb k) x, ?_⟩
  refine List.forall_mem_cons.2 ⟨fun x => dyTile_piece u g x3 x4 s8 k 3 _ rfl a3 b3 hs _ (k0_off43_eq k) (k0_off43_inb k) x, ?_⟩
  refine List.forall_mem_cons.2 ⟨fun x => dyTile_piece u g x3 x4 s8 k 2 _ rfl a2 b2 hs _ (k0_off42_eq k) (k0_off42_inb k) x, ?_⟩
  refine List.forall_mem_cons.2 ⟨fun x => dyTile_piece u g x3 x4 s8 k 1 _ rfl a1 b1 hs _ (k0_off40_eq k) (k0_off40_inb k) x, ?_⟩
  refine List.forall_mem_cons.2 ⟨fun x => dyTile_piece u g x3 x4 s8 k 0 _ rfl a0 b0 hs _ (k0_off39_eq k) (k0_off39_inb k) x, ?_⟩
  exact fun p hp => absurd hp List.not_mem_nil

theorem trip_t2_cover (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (g : EReal) (u : Fin 2)
    (X3 : BufTy.Contents (Elt Ideal) arg3.view.ty) (X4 : BufTy.Contents (Elt Ideal) arg4.view.ty) (X10 : BufTy.Contents (Elt Ideal) arg10.view.ty) (k : Fin k0_t2_loop.trips) :
    (∀ y : S512x512.Idx, 32 * k.val ≤ (y 0).val → (y 0).val < 32 * k.val + 32 →
      ∃ P ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 k).1, y ∈ P.1.set) ∧
    (∀ y : S512x1024.Idx, 32 * k.val ≤ (y 0).val → (y 0).val < 32 * k.val + 32 →
      ∃ P ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 k).2.1, y ∈ P.1.set) := by
  unfold trip_k0_t2
  dsimp only
  constructor
  · intro y h0 h0'
    refine cover_cons (32 * k.val) 384 (k0_off50_eq k) fun _ => ?_
    refine cover_cons (32 * k.val) 256 (k0_off47_eq k) fun _ => ?_
    refine cover_cons (32 * k.val) 128 (k0_off44_eq k) fun _ => ?_
    refine cover_cons (32 * k.val) 0 (k0_off41_eq k) fun _ => ?_
    have : (y 1).val < 512 := idx2_lt1 y
    omega
  · intro y h0 h0'
    refine cover_cons (32 * k.val) 896 (k0_off49_eq k) fun _ => ?_
    refine cover_cons (32 * k.val) 768 (k0_off48_eq k) fun _ => ?_
    refine cover_cons (32 * k.val) 640 (k0_off46_eq k) fun _ => ?_
    refine cover_cons (32 * k.val) 512 (k0_off45_eq k) fun _ => ?_
    refine cover_cons (32 * k.val) 384 (k0_off43_eq k) fun _ => ?_
    refine cover_cons (32 * k.val) 256 (k0_off42_eq k) fun _ => ?_
    refine cover_cons (32 * k.val) 128 (k0_off40_eq k) fun _ => ?_
    refine cover_cons (32 * k.val) 0 (k0_off39_eq k) fun _ => ?_
    have : (y 1).val < 1024 := idx2_lt1 y
    omega

/-- After the quantiser loop the two blocks hold the codes and the dequantised values. -/
theorem t2_read (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (g : EReal) (u : Fin 2)
    (X3 : BufTy.Contents (Elt Ideal) arg3.view.ty) (X4 : BufTy.Contents (Elt Ideal) arg4.view.ty) (X10 : BufTy.Contents (Elt Ideal) arg10.view.ty)
    (x3 : S512x1024.Idx → EReal) (x4 : S512x1024.Idx → BitVec 32) (s8 : S512x128.Idx → EReal)
    (hx3 : arg3.view.read (Elt Ideal) X3 = x3) (hx4 : arg4.view.read (Elt Ideal) X4 = x4) (hs8 : arg10.view.read (Elt Ideal) X10 = s8) :
    (∀ f : BufTy.Contents (Elt Ideal) arg9.view.ty, arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 k0_t2_loop.trips).1) = codesG u g x3 x4 s8) ∧
    (∀ f : BufTy.Contents (Elt Ideal) arg13.view.ty, arg13.view.read (Elt Ideal) (arg13.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 k0_t2_loop.trips).2) = dysG u g x3 x4 s8) := by
  have main : ∀ n, n ≤ k0_t2_loop.trips →
      ((∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 n).1, ∀ x : p.1.shape.Idx, p.2 x = codesG u g x3 x4 s8 (p.1.emb x)) ∧
       (∀ y : S512x512.Idx, (y 0).val < 32 * n → ∃ P ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 n).1, y ∈ P.1.set)) ∧
      ((∀ p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 n).2, ∀ x : p.1.shape.Idx, p.2 x = dysG u g x3 x4 s8 (p.1.emb x)) ∧
       (∀ y : S512x1024.Idx, (y 0).val < 32 * n → ∃ P ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 n).2, y ∈ P.1.set)) := by
    intro n
    induction n with
    | zero => exact fun _ => ⟨⟨fun p hp => absurd hp List.not_mem_nil, fun y hy => absurd hy (by omega)⟩, ⟨fun p hp => absurd hp List.not_mem_nil, fun y hy => absurd hy (by omega)⟩⟩
    | succ n ih =>
      intro hn
      obtain ⟨⟨i1, i2⟩, i3, i4⟩ := ih (by omega)
      have q1 := codesList_pieces g u ⟨n, hn⟩ arg3 arg4 arg10 X3 X4 X10 x3 x4 s8 hx3 hx4 hs8
      rw [← trip_t2_codes (F := Ideal) 𝒱 c bd i arg2 harg2 arg3 harg3 arg4 harg4 arg5 harg5 arg6 harg6 arg7 harg7 arg8 harg8 arg9 harg9 arg10 harg10 arg11 harg11 arg12 harg12 arg13 harg13] at q1
      have q3 := dysList_pieces g u ⟨n, hn⟩ arg3 arg4 arg10 X3 X4 X10 x3 x4 s8 hx3 hx4 hs8
      rw [← trip_t2_dys (F := Ideal) 𝒱 c bd i arg2 harg2 arg3 harg3 arg4 harg4 arg5 harg5 arg6 harg6 arg7 harg7 arg8 harg8 arg9 harg9 arg10 harg10 arg11 harg11 arg12 harg12 arg13 harg13 (v28 := lanes8) (v32 := evens) (c64 := 64#32)] at q3
      obtain ⟨q2, q4⟩ := trip_t2_cover 𝒱 c bd i arg2 harg2 arg3 harg3 arg4 harg4 arg5 harg5 arg6 harg6 arg7 harg7 arg8 harg8 arg9 harg9 arg10 harg10 arg11 harg11 arg12 harg12 arg13 harg13 g u X3 X4 X10 ⟨n, hn⟩
      rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 g (BitVec.ofNat 32 (64 * u.val)) lanes32 lanes8 evens 64#32 X3 X4 X10 ⟨n, hn⟩]
      refine ⟨⟨fun p hp => ?_, fun y hy => ?_⟩, fun p hp => ?_, fun y hy => ?_⟩
      · rcases List.mem_append.1 hp with h | h
        · exact q1 p h
        · exact i1 p h
      · by_cases hlt : (y 0).val < 32 * n
        · obtain ⟨P, hP, hm⟩ := i2 y hlt
          exact ⟨P, List.mem_append_right _ hP, hm⟩
        · obtain ⟨P, hP, hm⟩ := q2 y (by show 32 * n ≤ _; omega) (by show _ < 32 * n + 32; omega)
          exact ⟨P, List.mem_append_left _ hP, hm⟩
      · rcases List.mem_append.1 hp with h | h
        · exact q3 p h
        · exact i3 p h
      · by_cases hlt : (y 0).val < 32 * n
        · obtain ⟨P, hP, hm⟩ := i4 y hlt
          exact ⟨P, List.mem_append_right _ hP, hm⟩
        · obtain ⟨P, hP, hm⟩ := q4 y (by show 32 * n ≤ _; omega) (by show _ < 32 * n + 32; omega)
          exact ⟨P, List.mem_append_left _ hP, hm⟩
  obtain ⟨⟨m1, m2⟩, m3, m4⟩ := main _ le_rfl
  have ht : k0_t2_loop.trips = 16 := by decide +kernel
  constructor
  · intro f
    funext y
    refine View.read_writes_apply_of_pieces _ f (codesG u g x3 x4 s8) _ m1 y (m2 y ?_)
    have : (y 0).val < 512 := idx2_lt0 y
    omega
  · intro f
    funext y
    refine View.read_writes_apply_of_pieces _ f (dysG u g x3 x4 s8) _ m3 y (m4 y ?_)
    have : (y 0).val < 512 := idx2_lt0 y
    omega

end Cert.KernelIdeal.Gen
end
-- ==== Proof.Steps.lean ====
/- The single steps of the kernel's body over the extended reals: what each store leaves in its buffer. -/
module

public import proofs.«01_k».proof.Proof.Gen.KernelIdeal.Loops
public import proofs.«01_k».proof.Proof.Gen.KernelIdeal.Frame
public import proofs.«01_k».proof.Proof.Epilogue
public import proofs.«01_k».proof.Proof.QuantLoop

public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

local notation "𝕄" => MT nD τ sig Unit (Elt Ideal) ℕ (UR sig nD τ) ℕ

/-- The block scales a point computes from its block maxima. -/
def scalesG (x2 : S1x2.Idx → EReal) (x5 : S512x128.Idx → EReal) : S512x128.Idx → EReal :=
  k0_pay360 (F := Ideal) (x2 (ix2 0 0)) x5

/-- The decoded weight block after a point: decoded anew at the first row block, kept otherwise. -/
def newW (i : grid0.Coords) (x6 : S1024x1440.Idx → BitVec 8) (x7 : S1024x180.Idx → EReal) (w : S1024x3072.Idx → EReal) : S1024x3072.Idx → EReal :=
  if k0_cond1 i = 1#1 then fun y => wElt x6 x7 (y 0).val (y 1).val else w

/-- The accumulator after a point that adds `p` to its row block (or, at the first reduction step, puts it there). -/
def newAcc (i : grid0.Coords) (p : S512x3072.Idx → EReal) (a : S2048x3072.Idx → EReal) : S2048x3072.Idx → EReal :=
  fun y => if h : 512 * (i 1).val ≤ (y 0).val ∧ (y 0).val < 512 * (i 1).val + 512 then
    (let q := p (ix2 ⟨(y 0).val - 512 * (i 1).val, by omega⟩ (y 1)); if k0_cond2 i = 1#1 then q else a y + q) else a y

/-- The output block after a point: the scaled accumulator rows at the last reduction step, kept otherwise. -/
def newOut (i : grid0.Coords) (x2 : S1x2.Idx → EReal) (a : S2048x3072.Idx → EReal) (o : S512x2880.Idx → EReal) : S512x2880.Idx → EReal :=
  if k0_cond4 i = 1#1 then fun y => outElt a (x2 (ix2 0 1)) (i 1).val (y 0).val (y 1).val else o

/-- The parity of the first grid coordinate. -/
def parity (i : grid0.Coords) : Fin 2 := ⟨(i 0).val % 2, Nat.mod_lt _ (by decide)⟩

theorem off51_eq : ∀ i : grid0.Coords, k0_off51 i = ![512 * (i 1).val, 0] := by decide +kernel
theorem off52_eq : ∀ i : grid0.Coords, k0_off52 i = ![512 * (i 1).val, 0] := off51_eq

/-- The first lane of a point's block scales, as the kernel computes it. -/
def scaleBase (i : grid0.Coords) : BitVec 32 :=
  let arg0 : BitVec 32 := BitVec.ofNat 32 (i 0).val
  let v16 : BitVec 1 := Scalar.cmpi .eq 2#32 0#32
  let v17 : BitVec 32 := Scalar.select v16 1#32 2#32
  let v18 : BitVec 32 := Scalar.remsi arg0 v17
  let v19 : BitVec 1 := Scalar.cmpi .ne v18 0#32
  let v20 : BitVec 1 := Scalar.cmpi .slt v18 0#32
  let v21 : BitVec 1 := Scalar.cmpi .slt v17 0#32
  let v22 : BitVec 1 := Scalar.xori v20 v21
  let v23 : BitVec 1 := Scalar.andi v22 v19
  let v24 : BitVec 32 := Scalar.addi v18 v17
  let v25 : BitVec 32 := Scalar.select v23 v24 v18
  Scalar.muli v25 64#32

theorem scaleBase_eq : ∀ i : grid0.Coords, scaleBase i = BitVec.ofNat 32 (64 * (parity i).val) := by decide +kernel

theorem iota32_eq : iota .tc S32x128 32 [1] iota_S32x128_d1_w32 = lanes32 := by
  funext j; simp [lanes32, iota]

theorem iota8_eq : iota .tc S8x128 32 [1] iota_S8x128_d1_w32 = lanes8 := by
  funext j; simp [lanes8, iota]

theorem evens_eq : k0_pay361 = evens := by
  unfold k0_pay361; dsimp only; rw [iota8_eq]; rfl

/-- The two scalars of the first argument are its two elements. -/
theorem scal0 (arg2 : Memref sig .tc .smem S1x2 .f32) (f : BufTy.Contents (Elt Ideal) arg2.view.ty) (x2 : S1x2.Idx → EReal) (hx : arg2.view.read (Elt Ideal) f = x2) (h) :
    arg2.view.readAt (Elt Ideal) (Rect.unit (s := S1x2) ![0, 0] S1x1.size inb_S1x2_S1x1_0_0).toLoadRect f (Shape.Idx.first h) = x2 (ix2 0 0) := by
  subst hx
  exact congrArg (arg2.view.read (Elt Ideal) f) (funext fun a => by fin_cases a <;> rfl)

theorem scal1 (arg2 : Memref sig .tc .smem S1x2 .f32) (f : BufTy.Contents (Elt Ideal) arg2.view.ty) (x2 : S1x2.Idx → EReal) (hx : arg2.view.read (Elt Ideal) f = x2) (h) :
    arg2.view.readAt (Elt Ideal) (Rect.unit (s := S1x2) ![0, 1] S1x1.size inb_S1x2_S1x1_0_1).toLoadRect f (Shape.Idx.first h) = x2 (ix2 0 1) := by
  subst hx
  exact congrArg (arg2.view.read (Elt Ideal) f) (funext fun a => by fin_cases a <;> rfl)

/-- The store of the block scales leaves them. -/
theorem scales_read (arg5 : Memref sig .tc .vmem S512x128 .bf16) (arg10 : Memref sig .tc .vmem S512x128 .fp8e4m3)
    (x2 : S1x2.Idx → EReal) (x5 : S512x128.Idx → EReal) (f5 : BufTy.Contents (Elt Ideal) arg5.view.ty) (h5 : arg5.view.read (Elt Ideal) f5 = x5)
    (g : EReal) (hg : g = x2 (ix2 0 0)) (f : BufTy.Contents (Elt Ideal) arg10.view.ty) :
    arg10.view.read (Elt Ideal) (arg10.view.writes (Elt Ideal) f [⟨Rect.unit ![0, 0] S512x128.size inb_S512x128_S512x128_0_0,
      k0_pay360 (F := Ideal) g (arg5.view.readAt (Elt Ideal) (Rect.unit ![0, 0] S512x128.size inb_S512x128_S512x128_0_0).toLoadRect f5)⟩]) = scalesG x2 x5 := by
  subst hg
  rw [View.readAt_full, h5]
  exact View.read_writes_full _ _ _ _ _

/-- The quantiser loop's two results, its bound values given by equations. -/
theorem t2_reads (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (g v0 : EReal) (v26 : BitVec 32) (v27 : IVec S32x128 32) (v28 : IVec S8x128 32)
    (X3 : BufTy.Contents (Elt Ideal) arg3.view.ty) (X4 : BufTy.Contents (Elt Ideal) arg4.view.ty) (X10 : BufTy.Contents (Elt Ideal) arg10.view.ty)
    (x3 : S512x1024.Idx → EReal) (x4 : S512x1024.Idx → BitVec 32) (s8 : S512x128.Idx → EReal)
    (h0 : v0 = g) (h26 : v26 = scaleBase i) (h27 : v27 = iota .tc S32x128 32 [1] iota_S32x128_d1_w32) (h28 : v28 = iota .tc S8x128 32 [1] iota_S8x128_d1_w32)
    (hx3 : arg3.view.read (Elt Ideal) X3 = x3) (hx4 : arg4.view.read (Elt Ideal) X4 = x4) (hs8 : arg10.view.read (Elt Ideal) X10 = s8) :
    (∀ f : BufTy.Contents (Elt Ideal) arg9.view.ty, arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v0 v26 v27 v28 k0_pay361 64#32 X3 X4 X10 k0_t2_loop.trips).1) = codesG (parity i) g x3 x4 s8) ∧
    (∀ f : BufTy.Contents (Elt Ideal) arg13.view.ty, arg13.view.read (Elt Ideal) (arg13.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v0 v26 v27 v28 k0_pay361 64#32 X3 X4 X10 k0_t2_loop.trips).2) = dysG (parity i) g x3 x4 s8) := by
  rw [h0, h26, h27, h28, scaleBase_eq, iota32_eq, iota8_eq, evens_eq]
  exact t2_read 𝒱 c bd i arg2 harg2 arg3 harg3 arg4 harg4 arg5 harg5 arg6 harg6 arg7 harg7 arg8 harg8 arg9 harg9 arg10 harg10 arg11 harg11 arg12 harg12 arg13 harg13 g (parity i) X3 X4 X10 x3 x4 s8 hx3 hx4 hs8

/-- The decode loop's result, its lane numbers given by an equation. -/
theorem t1_reads (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (h1 : k0_cond1 i = 1#1) (v57 : IVec S32x128 32) (h57 : v57 = iota .tc S32x128 32 [1] iota_S32x128_d1_w32)
    (X6 : BufTy.Contents (Elt Ideal) arg6.view.ty) (X7 : BufTy.Contents (Elt Ideal) arg7.view.ty)
    (x6 : S1024x1440.Idx → BitVec 8) (x7 : S1024x180.Idx → EReal) (x12 : S1024x3072.Idx → EReal)
    (hx6 : arg6.view.read (Elt Ideal) X6 = x6) (hx7 : arg7.view.read (Elt Ideal) X7 = x7) (f : BufTy.Contents (Elt Ideal) arg12.view.ty) :
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 h1 v57 X6 X7 k0_t1_loop.trips))
      = newW i x6 x7 x12 := by
  rw [h57, iota32_eq, newW, if_pos h1]
  exact t1_read 𝒱 c bd i arg2 harg2 arg3 harg3 arg4 harg4 arg5 harg5 arg6 harg6 arg7 harg7 arg8 harg8 arg9 harg9 arg10 harg10 arg11 harg11 arg12 harg12 arg13 harg13 h1 X6 X7 x6 x7 hx6 hx7 f

/-- The first reduction step puts the product in the point's row block of the accumulator. -/
theorem acc_first (i : grid0.Coords) (h2 : k0_cond2 i = 1#1) (arg11 : Memref sig .tc .vmem S2048x3072 .f32) (f : BufTy.Contents (Elt Ideal) arg11.view.ty)
    (x11 : S2048x3072.Idx → EReal) (hx : arg11.view.read (Elt Ideal) f = x11) (A A' : S512x1024.Idx → EReal) (B B' : S1024x3072.Idx → EReal) (hA : A = A') (hB : B = B') (inb) :
    arg11.view.read (Elt Ideal) (arg11.view.writes (Elt Ideal) f [⟨Rect.unit (k0_off51 i) S512x3072.size inb, k0_pay3 (F := Ideal) A B⟩])
      = newAcc i (k0_pay2 (F := Ideal) A' B') x11 := by
  subst hA hB hx
  funext y
  unfold newAcc
  by_cases h : 512 * (i 1).val ≤ (y 0).val ∧ (y 0).val < 512 * (i 1).val + 512
  · rw [dif_pos h]; dsimp only; rw [if_pos h2]
    rw [View.read_writes_cons_rows_of_mem arg11.view f inb _ [] y (ix2 ⟨(y 0).val - 512 * (i 1).val, by omega⟩ (y 1)) (off51_eq i)
      (by show (y 0).val = _ + ((y 0).val - 512 * (i 1).val); omega) rfl]
    unfold k0_pay3
    rw [shapeCast_self]
  · rw [dif_neg h, View.read_writes_cons_rows_of_not_mem arg11.view f inb _ [] y (off51_eq i) (W := 512) rfl (by omega)]
    rfl

/-- A later reduction step adds the product to the point's row block of the accumulator. -/
theorem acc_next (i : grid0.Coords) (h2 : ¬ k0_cond2 i = 1#1) (arg11 : Memref sig .tc .vmem S2048x3072 .f32) (f : BufTy.Contents (Elt Ideal) arg11.view.ty)
    (x11 : S2048x3072.Idx → EReal) (hx : arg11.view.read (Elt Ideal) f = x11) (A A' : S512x1024.Idx → EReal) (B B' : S1024x3072.Idx → EReal) (hA : A = A') (hB : B = B') (inb inb') :
    arg11.view.read (Elt Ideal) (arg11.view.writes (Elt Ideal) f [⟨Rect.unit (k0_off52 i) S512x3072.size inb, k0_pay4 (F := Ideal) A B
        (arg11.view.readAt (Elt Ideal) (Rect.unit (s := S2048x3072) (k0_off52 i) S512x3072.size inb').toLoadRect f)⟩])
      = newAcc i (k0_pay2 (F := Ideal) A' B') x11 := by
  subst hA hB hx
  funext y
  unfold newAcc
  by_cases h : 512 * (i 1).val ≤ (y 0).val ∧ (y 0).val < 512 * (i 1).val + 512
  · rw [dif_pos h]; dsimp only; rw [if_neg h2]
    rw [View.read_writes_cons_rows_of_mem arg11.view f inb _ [] y (ix2 ⟨(y 0).val - 512 * (i 1).val, by omega⟩ (y 1)) (off52_eq i)
      (by show (y 0).val = _ + ((y 0).val - 512 * (i 1).val); omega) rfl]
    unfold k0_pay4
    dsimp only
    rw [shapeCast_self]
    refine congrArg (· + _) (congrArg (arg11.view.read (Elt Ideal) f) (funext fun a => Fin.ext ?_))
    refine (congrArg (· + _) (congrFun (off52_eq i) a)).trans ?_
    revert a
    refine Fin.forall_fin_two.mpr ⟨?_, ?_⟩
    · show 512 * (i 1).val + 1 * ((y 0).val - 512 * (i 1).val) = _; omega
    · show 0 + 1 * (y 1).val = _; omega
  · rw [dif_neg h, View.read_writes_cons_rows_of_not_mem arg11.view f inb _ [] y (off52_eq i) (W := 512) rfl (by omega)]
    rfl

/-- The epilogue leaves the scaled accumulator rows in the output block. -/
theorem t3_reads (𝒱 : Variants) (c : Dev nD) (bd : Option 𝒱.V) (i : grid0.Coords) (arg2 : Memref sig .tc .smem S1x2 .f32) (harg2 : arg2.IsWhole) (arg3 : Memref sig .tc .vmem S512x1024 .bf16) (harg3 : arg3.IsWhole) (arg4 : Memref sig .tc .vmem S512x1024 .i32) (harg4 : arg4.IsWhole) (arg5 : Memref sig .tc .vmem S512x128 .bf16) (harg5 : arg5.IsWhole) (arg6 : Memref sig .tc .vmem S1024x1440 .i8) (harg6 : arg6.IsWhole) (arg7 : Memref sig .tc .vmem S1024x180 .fp8e4m3) (harg7 : arg7.IsWhole) (arg8 : Memref sig .tc .vmem S512x2880 .bf16) (harg8 : arg8.IsWhole) (arg9 : Memref sig .tc .vmem S512x512 .i8) (harg9 : arg9.IsWhole) (arg10 : Memref sig .tc .vmem S512x128 .fp8e4m3) (harg10 : arg10.IsWhole) (arg11 : Memref sig .tc .vmem S2048x3072 .f32) (harg11 : arg11.IsWhole) (arg12 : Memref sig .tc .vmem S1024x3072 .bf16) (harg12 : arg12.IsWhole) (arg13 : Memref sig .tc .vmem S512x1024 .bf16) (harg13 : arg13.IsWhole) (v1 : Elt Ideal .f32) (v44 : BitVec 32) (h4 : k0_cond4 i = 1#1)
    (X11 : BufTy.Contents (Elt Ideal) arg11.view.ty) (x2 : S1x2.Idx → EReal) (h1 : v1 = x2 (ix2 0 1))
    (x11 : S2048x3072.Idx → EReal) (hx11 : arg11.view.read (Elt Ideal) X11 = x11) (x8 : S512x2880.Idx → EReal) (f : BufTy.Contents (Elt Ideal) arg8.view.ty) :
    arg8.view.read (Elt Ideal) (arg8.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 v1 v44 h4 X11 k0_t3_loop.trips))
      = newOut i x2 x11 x8 := by
  rw [newOut, if_pos h4, ← h1]
  exact t3_read 𝒱 c bd i arg2 harg2 arg3 harg3 arg4 harg4 arg5 harg5 arg6 harg6 arg7 harg7 arg8 harg8 arg9 harg9 arg10 harg10 arg11 harg11 arg12 harg12 arg13 harg13 v1 v44 h4 X11 x11 hx11 f

end Cert.KernelIdeal.Gen

end
-- ==== Proof.BodyValues.lean ====
/- One run of the kernel's body over the extended reals, with what it leaves in each buffer. -/
module

public import proofs.«01_k».proof.Proof.Gen.KernelIdeal.Loops
public import proofs.«01_k».proof.Proof.Gen.KernelIdeal.Frame
public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body keeps the six input blocks and leaves these contents in the three outputs and the three scratch buffers. -/
theorem body_vals (c : Dev nD) (i : grid0.Coords) (arg2 : Memref sig .tc .smem S1x2 .f32) (harg2 : arg2.IsWhole)
    (arg3 : Memref sig .tc .vmem S512x1024 .bf16) (harg3 : arg3.IsWhole) (arg4 : Memref sig .tc .vmem S512x1024 .i32) (harg4 : arg4.IsWhole)
    (arg5 : Memref sig .tc .vmem S512x128 .bf16) (harg5 : arg5.IsWhole) (arg6 : Memref sig .tc .vmem S1024x1440 .i8) (harg6 : arg6.IsWhole)
    (arg7 : Memref sig .tc .vmem S1024x180 .fp8e4m3) (harg7 : arg7.IsWhole) (arg8 : Memref sig .tc .vmem S512x2880 .bf16) (harg8 : arg8.IsWhole)
    (arg9 : Memref sig .tc .vmem S512x512 .i8) (harg9 : arg9.IsWhole) (arg10 : Memref sig .tc .vmem S512x128 .fp8e4m3) (harg10 : arg10.IsWhole)
    (arg11 : Memref sig .tc .vmem S2048x3072 .f32) (harg11 : arg11.IsWhole) (arg12 : Memref sig .tc .vmem S1024x3072 .bf16) (harg12 : arg12.IsWhole)
    (arg13 : Memref sig .tc .vmem S512x1024 .bf16) (harg13 : arg13.IsWhole)
    (h23 : k0_cond2 i = 1#1 ↔ ¬ k0_cond3 i = 1#1) (h24 : k0_cond2 i = 1#1 → ¬ k0_cond4 i = 1#1)
    (x2 : Vec Ideal S1x2 .f32) (x3 : Vec Ideal S512x1024 .bf16) (x4 : Vec Ideal S512x1024 .i32) (x5 : Vec Ideal S512x128 .bf16)
    (x6 : Vec Ideal S1024x1440 .i8) (x7 : Vec Ideal S1024x180 .fp8e4m3)
    (x8 : Vec Ideal S512x2880 .bf16) (x11 : Vec Ideal S2048x3072 .f32) (x12 : Vec Ideal S1024x3072 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d) ∗ (∃ d, owns (c : Thread nD τ) arg10 fullShare d)
        ∗ owns (c : Thread nD τ) arg11 fullShare x11 ∗ owns (c : Thread nD τ) arg12 fullShare x12 ∗ (∃ d, owns (c : Thread nD τ) arg13 fullShare d)
        ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare (newOut i x2 (newAcc i (k0_pay2 (F := Ideal) (dysG (parity i) (x2 (ix2 0 0)) x3 x4 (scalesG x2 x5)) (newW i x6 x7 x12)) x11) x8) ∗ owns (c : Thread nD τ) arg9 fullShare (codesG (parity i) (x2 (ix2 0 0)) x3 x4 (scalesG x2 x5)) ∗ owns (c : Thread nD τ) arg10 fullShare (scalesG x2 x5)
        ∗ owns (c : Thread nD τ) arg11 fullShare (newAcc i (k0_pay2 (F := Ideal) (dysG (parity i) (x2 (ix2 0 0)) x3 x4 (scalesG x2 x5)) (newW i x6 x7 x12)) x11) ∗ owns (c : Thread nD τ) arg12 fullShare (newW i x6 x7 x12) ∗ owns (c : Thread nD τ) arg13 fullShare (dysG (parity i) (x2 (ix2 0 0)) x3 x4 (scalesG x2 x5))) -∗ K ⟨⟩))
      ⊢ wp frame (wpE (defs₀ (F := Ideal)) Variants.none c none) E (cc0_main (F := Ideal) i arg2 harg2 arg3 harg3 arg4 harg4 arg5 harg5 arg6 harg6 arg7 harg7 arg8 harg8 arg9 harg9 arg10 harg10 arg11 harg11 arg12 harg12 arg13 harg13) K := by
  simp only [cc0_main_eq_skeleton]; unfold cc0_main_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%d13, %f13, -, H13⟩, Hk⟩
  by_cases hc1 : k0_cond1 i = 1#1 <;> by_cases hc3 : k0_cond3 i = 1#1 <;> by_cases hc4 : k0_cond4 i = 1#1
  all_goals try exact absurd hc4 (h24 (h23.mpr hc3))
  all_goals
      (first
        | have hc2 : k0_cond2 i = 1#1 := h23.mpr hc3
        | have hc2 : ¬ k0_cond2 i = 1#1 := fun h => (h23.mp h) hc3
       sl_exec (disch := first | sl_exact hc1 | sl_exact hc2 | sl_exact hc3 | sl_exact hc4)
       sl_step
       iapply Hk
       isplitl [H2]
       · iexists _; isplitr; swap; · iexact H2
         ipureintro; exact hf2
       isplitl [H3]
       · iexists _; isplitr; swap; · iexact H3
         ipureintro; exact hf3
       isplitl [H4]
       · iexists _; isplitr; swap; · iexact H4
         ipureintro; exact hf4
       isplitl [H5]
       · iexists _; isplitr; swap; · iexact H5
         ipureintro; exact hf5
       isplitl [H6]
       · iexists _; isplitr; swap; · iexact H6
         ipureintro; exact hf6
       isplitl [H7]
       · iexists _; isplitr; swap; · iexact H7
         ipureintro; exact hf7
       isplitl [H8]
       · iexists _; isplitr; swap; · iexact H8
         ipureintro; (first | exact (hf8.trans (by rw [newOut, if_neg hc4])) | exact (t3_reads Variants.none c none i arg2 harg2 arg3 harg3 arg4 harg4 arg5 harg5 arg6 harg6 arg7 harg7 arg8 harg8 arg9 harg9 arg10 harg10 arg11 harg11 arg12 harg12 arg13 harg13 _ _ hc4 _ x2 (scal1 arg2 f2 x2 hf2 _) _ (acc_next i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (t1_reads Variants.none c none i arg2 harg2 arg3 harg3 arg4 harg4 arg5 harg5 arg6 harg6 arg7 harg7 arg8 harg8 arg9 harg9 arg10 harg10 arg11 harg11 arg12 harg12 arg13 harg13 hc1 _ rfl f6 f7 x6 x7 x12 hf6 hf7 f12)) _ _) x8 f8) | exact (t3_reads Variants.none c none i arg2 harg2 arg3 harg3 arg4 harg4 arg5 harg5 arg6 harg6 arg7 harg7 arg8 harg8 arg9 harg9 arg10 harg10 arg11 harg11 arg12 harg12 arg13 harg13 _ _ hc4 _ x2 (scal1 arg2 f2 x2 hf2 _) _ (acc_next i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (show arg12.view.read (Elt Ideal) f12 = newW i x6 x7 x12 from hf12.trans (by rw [newW, if_neg hc1]))) _ _) x8 f8))
       isplitl [H9]
       · iexists _; isplitr; swap; · iexact H9
         ipureintro; exact (t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).1 f9
       isplitl [H10]
       · iexists _; isplitr; swap; · iexact H10
         ipureintro; exact (scales_read arg5 arg10 x2 x5 f5 hf5 _ (scal0 arg2 f2 x2 hf2 _) _)
       isplitl [H11]
       · iexists _; isplitr; swap; · iexact H11
         ipureintro; (first | exact (acc_first i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (t1_reads Variants.none c none i arg2 harg2 arg3 harg3 arg4 harg4 arg5 harg5 arg6 harg6 arg7 harg7 arg8 harg8 arg9 harg9 arg10 harg10 arg11 harg11 arg12 harg12 arg13 harg13 hc1 _ rfl f6 f7 x6 x7 x12 hf6 hf7 f12)) _) | exact (acc_first i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (show arg12.view.read (Elt Ideal) f12 = newW i x6 x7 x12 from hf12.trans (by rw [newW, if_neg hc1]))) _) | exact (acc_next i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (t1_reads Variants.none c none i arg2 harg2 arg3 harg3 arg4 harg4 arg5 harg5 arg6 harg6 arg7 harg7 arg8 harg8 arg9 harg9 arg10 harg10 arg11 harg11 arg12 harg12 arg13 harg13 hc1 _ rfl f6 f7 x6 x7 x12 hf6 hf7 f12)) _ _) | exact (acc_next i hc2 arg11 f11 x11 hf11 _ _ _ _ ((View.readAt_full _ _ _).trans ((t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)) ((View.readAt_full _ _ _).trans (show arg12.view.read (Elt Ideal) f12 = newW i x6 x7 x12 from hf12.trans (by rw [newW, if_neg hc1]))) _ _))
       isplitl [H12]
       · iexists _; isplitr; swap; · iexact H12
         ipureintro; (first | exact (t1_reads Variants.none c none i arg2 harg2 arg3 harg3 arg4 harg4 arg5 harg5 arg6 harg6 arg7 harg7 arg8 harg8 arg9 harg9 arg10 harg10 arg11 harg11 arg12 harg12 arg13 harg13 hc1 _ rfl f6 f7 x6 x7 x12 hf6 hf7 f12) | exact (show arg12.view.read (Elt Ideal) f12 = newW i x6 x7 x12 from hf12.trans (by rw [newW, if_neg hc1])))
       iexists _; isplitr; swap; · iexact H13
       ipureintro; exact (t2_reads Variants.none c none i arg2 harg2 arg3 harg3 arg4 harg4 arg5 harg5 arg6 harg6 arg7 harg7 arg8 harg8 arg9 harg9 arg10 harg10 arg11 harg11 arg12 harg12 arg13 harg13 (x2 (ix2 0 0)) _ _ _ _ f3 f4 _ x3 x4 (scalesG x2 x5) (scal0 arg2 f2 x2 hf2 _) rfl rfl rfl hf3 hf4 (scales_read arg5 arg10 x2 x5 f5 hf5 _ (scal0 arg2 f2 x2 hf2 _) _)).2 f13)

end Cert.KernelIdeal.Gen

end
-- ==== Proof.KernelInv.lean ====
/- The kernel's results over the extended reals: the parts of its three results, and what its scratch buffers hold between points. -/
module

public import proofs.«01_k».proof.Proof.Gen.KernelIdeal.Loops
public import proofs.«01_k».proof.Proof.Gen.KernelIdeal.Frame
public import proofs.«01_k».proof.Proof.BodyValues
public import proofs.«01_k».proof.Proof.KernelIdealFrame
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

local notation "𝕄" => MT nD τ sig Unit (Elt Ideal) ℕ (UR sig nD τ) ℕ

/-- A block of an array: rows from `r0`, columns from `c0`. -/
def sub {α : Type} {n0 n1 p0 p1 : Nat} (x : (⟨2, ![n0, n1]⟩ : Shape).Idx → α) (d : α) (r0 c0 : Nat) : (⟨2, ![p0, p1]⟩ : Shape).Idx → α :=
  fun y => rd x d (r0 + (y 0).val) (c0 + (y 1).val)

/-- An element of a block is that element of the array. -/
theorem rd_sub {α : Type} {n0 n1 p0 p1 : Nat} (x : (⟨2, ![n0, n1]⟩ : Shape).Idx → α) (d : α) (r0 c0 r c : Nat) (hr : r < p0) (hc : c < p1) :
    rd (sub x d r0 c0 : (⟨2, ![p0, p1]⟩ : Shape).Idx → α) d r c = rd x d (r0 + r) (c0 + c) := by
  unfold rd; rw [dif_pos ⟨hr, hc⟩]; rfl

/-- The six arguments of the kernel. -/
structure Args where
  a0 : S1x2.Idx → EReal
  a1 : S2048x16384.Idx → EReal
  a2 : S2048x16384.Idx → BitVec 32
  a3 : S2048x1024.Idx → EReal
  a4 : S16384x1440.Idx → BitVec 8
  a5 : S16384x180.Idx → EReal

namespace Args
variable (a : Args)

/-- The block scales of reduction step `k`, row block `j`. -/
def scales (k j : Nat) : S512x128.Idx → EReal := scalesG a.a0 (sub a.a3 0 (512 * j) (128 * (k / 2)))
/-- The packed codes of reduction step `k`, row block `j`. -/
def codes (k j : Nat) : S512x512.Idx → BitVec 8 :=
  codesG ⟨k % 2, Nat.mod_lt _ (by decide)⟩ (a.a0 (ix2 0 0)) (sub a.a1 0 (512 * j) (1024 * k)) (sub a.a2 0 (512 * j) (1024 * k)) (a.scales k j)
/-- The dequantised values of reduction step `k`, row block `j`. -/
def dys (k j : Nat) : S512x1024.Idx → EReal :=
  dysG ⟨k % 2, Nat.mod_lt _ (by decide)⟩ (a.a0 (ix2 0 0)) (sub a.a1 0 (512 * j) (1024 * k)) (sub a.a2 0 (512 * j) (1024 * k)) (a.scales k j)
/-- The decoded weights of reduction step `k`. -/
def wts (k : Nat) : S1024x3072.Idx → EReal := fun y => wElt (sub a.a4 0 (1024 * k) 0) (sub a.a5 0 (1024 * k) 0) (y 0).val (y 1).val
/-- The product of reduction step `k` for row block `j`. -/
def part (k j : Nat) : S512x3072.Idx → EReal := k0_pay2 (F := Ideal) (a.dys k j) (a.wts k)
/-- The accumulator's row block `j` after `n` reduction steps. -/
def acc (n j : Nat) : S512x3072.Idx → EReal := fun y => ∑ k ∈ Finset.range n, a.part k j y
/-- The output's row block `j`. -/
def dx (j : Nat) : S512x2880.Idx → EReal :=
  fun y => a.acc 16 j (ix2 (y 0) ⟨256 * ((y 1).val / 256) + 128 * ((y 1).val % 2) + (y 1).val % 256 / 2, by have : (y 1).val < 2880 := (y 1).isLt; omega⟩) * a.a0 (ix2 0 1)

/-- What the first two scratch buffers hold before point `n`. -/
structure Inv (n : Nat) (d11 : S2048x3072.Idx → EReal) (d12 : S1024x3072.Idx → EReal) : Prop where
  acc_rows : ∀ (j : Nat) (hj : j < 4) (r : Fin 512) (q : Fin 3072), 0 < (n + 3 - j) / 4 →
    d11 (ix2 ⟨512 * j + r.val, by omega⟩ q) = a.acc ((n + 3 - j) / 4) j (ix2 r q)
  wts_kept : n % 4 ≠ 0 → d12 = a.wts (n / 4)

end Args

theorem crd : ∀ t : Fin grid0.N, (grid0.coords t 0).val = t.val / 4 ∧ (grid0.coords t 1).val = t.val % 4 := by decide +kernel
theorem cond1_iff : ∀ t : Fin grid0.N, (k0_cond1 (grid0.coords t) = 1#1 ↔ t.val % 4 = 0) := by decide +kernel
theorem cond2_iff : ∀ t : Fin grid0.N, (k0_cond2 (grid0.coords t) = 1#1 ↔ t.val / 4 = 0) := by decide +kernel
theorem cond4_iff : ∀ t : Fin grid0.N, (k0_cond4 (grid0.coords t) = 1#1 ↔ t.val / 4 = 15) := by decide +kernel

theorem parity_eq (t : Fin grid0.N) : parity (grid0.coords t) = ⟨t.val / 4 % 2, Nat.mod_lt _ (by decide)⟩ :=
  Fin.ext (by show (grid0.coords t 0).val % 2 = _; rw [(crd t).1])

/-- The decoded weights at point `t`, those of the block kept when the point does not decode. -/
theorem newW_eq (a : Args) (t : Fin grid0.N) (d11 d12) (h : a.Inv t.val d11 d12) :
    newW (grid0.coords t) (sub a.a4 0 (1024 * (t.val / 4)) 0) (sub a.a5 0 (1024 * (t.val / 4)) 0) d12 = a.wts (t.val / 4) := by
  unfold newW
  by_cases h1 : k0_cond1 (grid0.coords t) = 1#1
  · rw [if_pos h1]; rfl
  · rw [if_neg h1]; exact h.wts_kept fun e => h1 ((cond1_iff t).2 e)

/-- The point's row block of the accumulator after the point. -/
theorem newAcc_eq (a : Args) (t : Fin grid0.N) (d11 d12) (h : a.Inv t.val d11 d12) (j : Nat) (hj : j < 4) (r : Fin 512) (q : Fin 3072)
    (hn : 0 < (t.val + 1 + 3 - j) / 4) :
    newAcc (grid0.coords t) (a.part (t.val / 4) (t.val % 4)) d11 (ix2 ⟨512 * j + r.val, by omega⟩ q) = a.acc ((t.val + 1 + 3 - j) / 4) j (ix2 r q) := by
  obtain ⟨c0, c1⟩ := crd t
  have hr := r.isLt
  unfold newAcc
  by_cases hb : 512 * (grid0.coords t 1).val ≤ 512 * j + r.val ∧ 512 * j + r.val < 512 * (grid0.coords t 1).val + 512
  · rw [dif_pos hb]
    have ej : j = t.val % 4 := by omega
    have ei : (ix2 (n0 := 512) (n1 := 3072) ⟨512 * j + r.val - 512 * (grid0.coords t 1).val, by omega⟩ q) = ix2 r q := by
      congr 1; exact Fin.ext (by show 512 * j + r.val - 512 * (grid0.coords t 1).val = _; omega)
    have e1 : (t.val + 1 + 3 - j) / 4 = t.val / 4 + 1 := by omega
    have e2 : (t.val + 3 - j) / 4 = t.val / 4 := by omega
    show (if k0_cond2 (grid0.coords t) = 1#1 then a.part (t.val / 4) (t.val % 4) (ix2 ⟨512 * j + r.val - 512 * (grid0.coords t 1).val, _⟩ q) else _ + a.part (t.val / 4) (t.val % 4) (ix2 ⟨512 * j + r.val - 512 * (grid0.coords t 1).val, _⟩ q)) = _
    rw [ei, e1]
    unfold Args.acc
    rw [Finset.sum_range_succ, ← ej]
    by_cases h2 : k0_cond2 (grid0.coords t) = 1#1
    · rw [if_pos h2, (cond2_iff t).1 h2, Finset.sum_range_zero, zero_add]
    · rw [if_neg h2]
      have := h.acc_rows j hj r q (by rw [e2]; exact Nat.pos_of_ne_zero fun e => h2 ((cond2_iff t).2 e))
      rw [e2] at this
      exact congrArg (· + _) this
  · rw [dif_neg hb]
    have e1 : (t.val + 1 + 3 - j) / 4 = (t.val + 3 - j) / 4 := by omega
    rw [e1] at hn ⊢
    exact h.acc_rows j hj r q hn

/-- The invariant passes from a point to the next. -/
theorem inv_step (a : Args) (t : Fin grid0.N) (d11 d12) (h : a.Inv t.val d11 d12) :
    a.Inv (t.val + 1) (newAcc (grid0.coords t) (a.part (t.val / 4) (t.val % 4)) d11) (a.wts (t.val / 4)) :=
  ⟨fun j hj r q hn => newAcc_eq a t d11 d12 h j hj r q hn, fun hn => by rw [show (t.val + 1) / 4 = t.val / 4 from by omega]⟩

/-- At the last reduction step the output block is the row block of the result. -/
theorem newOut_eq (a : Args) (t : Fin grid0.N) (d11 d12) (h : a.Inv t.val d11 d12) (x8) (h15 : t.val / 4 = 15) :
    newOut (grid0.coords t) a.a0 (newAcc (grid0.coords t) (a.part (t.val / 4) (t.val % 4)) d11) x8 = a.dx (t.val % 4) := by
  unfold newOut
  rw [if_pos ((cond4_iff t).2 h15)]
  funext y
  have hy0 : (y 0).val < 512 := idx2_lt0 y
  have hy1 : (y 1).val < 2880 := idx2_lt1 y
  unfold outElt Args.dx
  rw [(crd t).2]
  have e := newAcc_eq a t d11 d12 h (t.val % 4) (by omega) (y 0) ⟨256 * ((y 1).val / 256) + 128 * ((y 1).val % 2) + (y 1).val % 256 / 2, by omega⟩ (by omega)
  rw [show (t.val + 1 + 3 - t.val % 4) / 4 = 16 from by omega] at e
  rw [← e]
  congr 1
  exact rd_ix2 (newAcc (grid0.coords t) (a.part (t.val / 4) (t.val % 4)) d11) 0 ⟨512 * (t.val % 4) + (y 0).val, by omega⟩ ⟨_, by omega⟩

variable (m : (ℓ : Loc nD τ sig) → Buf (Elt Ideal) ℓ) (ρ : Dev nD → PrngReg)

/-- The six arguments in memory. -/
def argsOf (c : Dev nD) : Args :=
  ⟨V m c main_arg0, V m c main_arg1, V m c main_arg2, V m c main_arg3, V m c main_arg4, V m c main_arg5⟩

theorem idx_0 : ∀ t : Fin grid0.N, win0_0.index t 0 = 0 ∧ win0_0.index t 1 = 0 := by decide +kernel
theorem idx_1 : ∀ t : Fin grid0.N, win0_1.index t 0 = t.val % 4 ∧ win0_1.index t 1 = t.val / 4 := by decide +kernel
theorem idx_2 : ∀ t : Fin grid0.N, win0_2.index t 0 = t.val % 4 ∧ win0_2.index t 1 = t.val / 4 := by decide +kernel
theorem idx_3 : ∀ t : Fin grid0.N, win0_3.index t 0 = t.val % 4 ∧ win0_3.index t 1 = t.val / 4 / 2 := by decide +kernel
theorem idx_4 : ∀ t : Fin grid0.N, win0_4.index t 0 = t.val / 4 ∧ win0_4.index t 1 = 0 := by decide +kernel
theorem idx_5 : ∀ t : Fin grid0.N, win0_5.index t 0 = t.val / 4 ∧ win0_5.index t 1 = 0 := by decide +kernel

/-- The block of argument 0 at point `t`. -/
theorem blk_0 (c : Dev nD) (t : Fin cfg0.N) : iblk m c 0 t = ((argsOf m c).a0 : S1x2.Idx → _) := by
  funext y
  have h0 : (y 0).val < 1 := (y 0).isLt
  have h1 : (y 1).val < 2 := (y 1).isLt
  have ht : t.val < 64 := t.isLt
  refine congrArg (V m c main_arg0) (funext fun a => Fin.ext ?_)
  refine (Pipeline.Window.rect_emb_val win0_0 t y a).trans ?_
  obtain ⟨i0, i1⟩ := idx_0 t
  fin_cases a
  · refine (congrArg (· * 1 + (y 0).val) i0).trans ?_
    show _ = (y 0).val
    omega
  · refine (congrArg (· * 2 + (y 1).val) i1).trans ?_
    show _ = (y 1).val
    omega

/-- The block of argument 1 at point `t`. -/
theorem blk_1 (c : Dev nD) (t : Fin cfg0.N) : iblk m c 1 t = (sub (argsOf m c).a1 0 (512 * (t.val % 4)) (1024 * (t.val / 4)) : S512x1024.Idx → _) := by
  funext y
  have h0 : (y 0).val < 512 := (y 0).isLt
  have h1 : (y 1).val < 1024 := (y 1).isLt
  have ht : t.val < 64 := t.isLt
  unfold sub rd
  rw [dif_pos (by constructor <;> omega)]
  refine congrArg (V m c main_arg1) (funext fun a => Fin.ext ?_)
  refine (Pipeline.Window.rect_emb_val win0_1 t y a).trans ?_
  obtain ⟨i0, i1⟩ := idx_1 t
  fin_cases a
  · refine (congrArg (· * 512 + (y 0).val) i0).trans ?_
    show _ = 512 * (t.val % 4) + (y 0).val
    omega
  · refine (congrArg (· * 1024 + (y 1).val) i1).trans ?_
    show _ = 1024 * (t.val / 4) + (y 1).val
    omega

/-- The block of argument 2 at point `t`. -/
theorem blk_2 (c : Dev nD) (t : Fin cfg0.N) : iblk m c 2 t = (sub (argsOf m c).a2 0 (512 * (t.val % 4)) (1024 * (t.val / 4)) : S512x1024.Idx → _) := by
  funext y
  have h0 : (y 0).val < 512 := (y 0).isLt
  have h1 : (y 1).val < 1024 := (y 1).isLt
  have ht : t.val < 64 := t.isLt
  unfold sub rd
  rw [dif_pos (by constructor <;> omega)]
  refine congrArg (V m c main_arg2) (funext fun a => Fin.ext ?_)
  refine (Pipeline.Window.rect_emb_val win0_2 t y a).trans ?_
  obtain ⟨i0, i1⟩ := idx_2 t
  fin_cases a
  · refine (congrArg (· * 512 + (y 0).val) i0).trans ?_
    show _ = 512 * (t.val % 4) + (y 0).val
    omega
  · refine (congrArg (· * 1024 + (y 1).val) i1).trans ?_
    show _ = 1024 * (t.val / 4) + (y 1).val
    omega

/-- The block of argument 3 at point `t`. -/
theorem blk_3 (c : Dev nD) (t : Fin cfg0.N) : iblk m c 3 t = (sub (argsOf m c).a3 0 (512 * (t.val % 4)) (128 * (t.val / 4 / 2)) : S512x128.Idx → _) := by
  funext y
  have h0 : (y 0).val < 512 := (y 0).isLt
  have h1 : (y 1).val < 128 := (y 1).isLt
  have ht : t.val < 64 := t.isLt
  unfold sub rd
  rw [dif_pos (by constructor <;> omega)]
  refine congrArg (V m c main_arg3) (funext fun a => Fin.ext ?_)
  refine (Pipeline.Window.rect_emb_val win0_3 t y a).trans ?_
  obtain ⟨i0, i1⟩ := idx_3 t
  fin_cases a
  · refine (congrArg (· * 512 + (y 0).val) i0).trans ?_
    show _ = 512 * (t.val % 4) + (y 0).val
    omega
  · refine (congrArg (· * 128 + (y 1).val) i1).trans ?_
    show _ = 128 * (t.val / 4 / 2) + (y 1).val
    omega

/-- The block of argument 4 at point `t`. -/
theorem blk_4 (c : Dev nD) (t : Fin cfg0.N) : iblk m c 4 t = (sub (argsOf m c).a4 0 (1024 * (t.val / 4)) (0) : S1024x1440.Idx → _) := by
  funext y
  have h0 : (y 0).val < 1024 := (y 0).isLt
  have h1 : (y 1).val < 1440 := (y 1).isLt
  have ht : t.val < 64 := t.isLt
  unfold sub rd
  rw [dif_pos (by constructor <;> omega)]
  refine congrArg (V m c main_arg4) (funext fun a => Fin.ext ?_)
  refine (Pipeline.Window.rect_emb_val win0_4 t y a).trans ?_
  obtain ⟨i0, i1⟩ := idx_4 t
  fin_cases a
  · refine (congrArg (· * 1024 + (y 0).val) i0).trans ?_
    show _ = 1024 * (t.val / 4) + (y 0).val
    omega
  · refine (congrArg (· * 1440 + (y 1).val) i1).trans ?_
    show _ = 0 + (y 1).val
    omega

/-- The block of argument 5 at point `t`. -/
theorem blk_5 (c : Dev nD) (t : Fin cfg0.N) : iblk m c 5 t = (sub (argsOf m c).a5 0 (1024 * (t.val / 4)) (0) : S1024x180.Idx → _) := by
  funext y
  have h0 : (y 0).val < 1024 := (y 0).isLt
  have h1 : (y 1).val < 180 := (y 1).isLt
  have ht : t.val < 64 := t.isLt
  unfold sub rd
  rw [dif_pos (by constructor <;> omega)]
  refine congrArg (V m c main_arg5) (funext fun a => Fin.ext ?_)
  refine (Pipeline.Window.rect_emb_val win0_5 t y a).trans ?_
  obtain ⟨i0, i1⟩ := idx_5 t
  fin_cases a
  · refine (congrArg (· * 1024 + (y 0).val) i0).trans ?_
    show _ = 1024 * (t.val / 4) + (y 0).val
    omega
  · refine (congrArg (· * 180 + (y 1).val) i1).trans ?_
    show _ = 0 + (y 1).val
    omega

/-- What a point leaves in the three output windows. -/
def Rl0 (a : Args) : (w : Fin cfg0.W) → Fin cfg0.N → ((cfg0.win w).block.Idx → Elt Ideal (cfg0.win w).elt) → Prop
  | ⟨6, _⟩, t, X => t.val / 4 = 15 → X = a.dx (t.val % 4)
  | ⟨7, _⟩, t, X => X = a.codes (t.val / 4) (t.val % 4)
  | ⟨8, _⟩, t, X => X = a.scales (t.val / 4) (t.val % 4)
  | _, _, _ => True

/-- The scratch buffers before point `n`, and the generator register. -/
def PhiV (a : Args) (c : Dev nD) (n : Nat) : sProp 𝕄 :=
  iprop((∃ d11 d12 d13, ⌜a.Inv n d11 d12⌝ ∗ owns (c : Thread nD τ) scM0_0 fullShare d11 ∗ owns (c : Thread nD τ) scM0_1 fullShare d12
          ∗ owns (c : Thread nD τ) scM0_2 fullShare d13) ∗ (∃ r, prngReg c r))

/-- The pipeline's proof data with the scratch buffers' contents tracked. -/
def datsV (c : Dev nD) : Dat τ (Elt Ideal) Unit ℕ (UR sig nD τ) ℕ cfg0 c :=
  { dats m 0 c with
    Φ := fun n => PhiV (argsOf m c) c n.val }

theorem AV_eq (c : Dev nD) (w : Fin cfg0.W) : (datsV m c).A w = V m c (Pipeline.arrRef spec0 w) := by
  dsimp only [datsV, dats]

theorem afterV_0 (c : Dev nD) (t : Fin cfg0.N) : (datsV m c).after 0 t = iblk m c 0 t := by dsimp only [datsV, dats]
theorem afterV_1 (c : Dev nD) (t : Fin cfg0.N) : (datsV m c).after 1 t = iblk m c 1 t := by dsimp only [datsV, dats]
theorem afterV_2 (c : Dev nD) (t : Fin cfg0.N) : (datsV m c).after 2 t = iblk m c 2 t := by dsimp only [datsV, dats]
theorem afterV_3 (c : Dev nD) (t : Fin cfg0.N) : (datsV m c).after 3 t = iblk m c 3 t := by dsimp only [datsV, dats]
theorem afterV_4 (c : Dev nD) (t : Fin cfg0.N) : (datsV m c).after 4 t = iblk m c 4 t := by dsimp only [datsV, dats]
theorem afterV_5 (c : Dev nD) (t : Fin cfg0.N) : (datsV m c).after 5 t = iblk m c 5 t := by dsimp only [datsV, dats]
theorem beforeV_0 (c : Dev nD) (t : Fin cfg0.N) (d) : (datsV m c).before 0 t d = iblk m c 0 t :=
  before0_0_of m (datsV m c) (AV_eq m c 0) (afterV_0 m c) t d
theorem beforeV_1 (c : Dev nD) (t : Fin cfg0.N) (d) : (datsV m c).before 1 t d = iblk m c 1 t :=
  before0_1_of m (datsV m c) (AV_eq m c 1) (afterV_1 m c) t d
theorem beforeV_2 (c : Dev nD) (t : Fin cfg0.N) (d) : (datsV m c).before 2 t d = iblk m c 2 t :=
  before0_2_of m (datsV m c) (AV_eq m c 2) (afterV_2 m c) t d
theorem beforeV_3 (c : Dev nD) (t : Fin cfg0.N) (d) : (datsV m c).before 3 t d = iblk m c 3 t :=
  before0_3_of m (datsV m c) (AV_eq m c 3) (afterV_3 m c) t d
theorem beforeV_4 (c : Dev nD) (t : Fin cfg0.N) (d) : (datsV m c).before 4 t d = iblk m c 4 t :=
  before0_4_of m (datsV m c) (AV_eq m c 4) (afterV_4 m c) t d
theorem beforeV_5 (c : Dev nD) (t : Fin cfg0.N) (d) : (datsV m c).before 5 t d = iblk m c 5 t :=
  before0_5_of m (datsV m c) (AV_eq m c 5) (afterV_5 m c) t d

end Cert.KernelIdeal.Gen

end
-- ==== Proof.KernelValues.lean ====
/- The kernel's results over the extended reals: what its three arrays hold after the run, as functions of its six arguments. -/
module

public import proofs.«01_k».proof.Proof.Gen.KernelIdeal.Loops
public import proofs.«01_k».proof.Proof.Gen.KernelIdeal.Frame
public import proofs.«01_k».proof.Proof.KernelInv
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, -/
def bodyPreV (c : Dev nD) (t : Fin cfg0.N) : sProp 𝕄 :=
  iprop((datsV m c).Φ t.castSucc ∗ (datsV m c).owesAt () t.castSucc
    ∗ (∃ d, owns (c : Thread nD τ) (ms0_0 t) fullShare ((datsV m c).before 0 t d))
    ∗ (∃ d, owns (c : Thread nD τ) (ms0_1 t) fullShare ((datsV m c).before 1 t d))
    ∗ (∃ d, owns (c : Thread nD τ) (ms0_2 t) fullShare ((datsV m c).before 2 t d))
    ∗ (∃ d, owns (c : Thread nD τ) (ms0_3 t) fullShare ((datsV m c).before 3 t d))
    ∗ (∃ d, owns (c : Thread nD τ) (ms0_4 t) fullShare ((datsV m c).before 4 t d))
    ∗ (∃ d, owns (c : Thread nD τ) (ms0_5 t) fullShare ((datsV m c).before 5 t d))
    ∗ (∃ Y, ⌜((datsV m c).toRRel forgets0 (Rl0 (argsOf m c))).Finds 6 t Y⌝ ∗ owns (c : Thread nD τ) (ms0_6 t) fullShare Y)
    ∗ (∃ Y, ⌜((datsV m c).toRRel forgets0 (Rl0 (argsOf m c))).Finds 7 t Y⌝ ∗ owns (c : Thread nD τ) (ms0_7 t) fullShare Y)
    ∗ (∃ Y, ⌜((datsV m c).toRRel forgets0 (Rl0 (argsOf m c))).Finds 8 t Y⌝ ∗ owns (c : Thread nD τ) (ms0_8 t) fullShare Y))

/-- and what it returns. -/
def bodyPostV (c : Dev nD) (t : Fin cfg0.N) : sProp 𝕄 :=
  iprop((datsV m c).Φ t.succ ∗ (datsV m c).owesAt () t.succ
    ∗ (datsV m c).leavesExact 0 t
    ∗ (datsV m c).leavesExact 1 t
    ∗ (datsV m c).leavesExact 2 t
    ∗ (datsV m c).leavesExact 3 t
    ∗ (datsV m c).leavesExact 4 t
    ∗ (datsV m c).leavesExact 5 t
    ∗ (∃ X, ⌜Rl0 (argsOf m c) 6 t X⌝ ∗ owns (c : Thread nD τ) (ms0_6 t) fullShare X)
    ∗ (∃ X, ⌜Rl0 (argsOf m c) 7 t X⌝ ∗ owns (c : Thread nD τ) (ms0_7 t) fullShare X)
    ∗ (∃ X, ⌜Rl0 (argsOf m c) 8 t X⌝ ∗ owns (c : Thread nD τ) (ms0_8 t) fullShare X))

set_option maxHeartbeats 4000000 in
/-- The body at any point, from `body_vals`. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [beforeV_0, beforeV_1, beforeV_2, beforeV_3, beforeV_4, beforeV_5]
  rw [show (datsV m c).owesAt () t.succ = (datsV m c).owesAt () t.castSucc from rfl]
  rw [show (datsV m c).Φ t.succ = PhiV (argsOf m c) c (t.val + 1) from rfl, show (datsV m c).Φ t.castSucc = PhiV (argsOf m c) c t.val from rfl]
  unfold PhiV
  rw [show (datsV m c).leavesExact 0 t = owns (c : Thread nD τ) (ms0_0 t) fullShare ((datsV m c).after 0 t) from rfl, afterV_0]
  rw [show (datsV m c).leavesExact 1 t = owns (c : Thread nD τ) (ms0_1 t) fullShare ((datsV m c).after 1 t) from rfl, afterV_1]
  rw [show (datsV m c).leavesExact 2 t = owns (c : Thread nD τ) (ms0_2 t) fullShare ((datsV m c).after 2 t) from rfl, afterV_2]
  rw [show (datsV m c).leavesExact 3 t = owns (c : Thread nD τ) (ms0_3 t) fullShare ((datsV m c).after 3 t) from rfl, afterV_3]
  rw [show (datsV m c).leavesExact 4 t = owns (c : Thread nD τ) (ms0_4 t) fullShare ((datsV m c).after 4 t) from rfl, afterV_4]
  rw [show (datsV m c).leavesExact 5 t = owns (c : Thread nD τ) (ms0_5 t) fullShare ((datsV m c).after 5 t) from rfl, afterV_5]
  rw [blk_0, blk_1, blk_2, blk_3, blk_4, blk_5]
  iintro ⟨⟨⟨%d11, %d12, %d13, %hI, HS0, HS1, HS2⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩⟩
  iapply (body_vals c (grid0.coords t) _ _ _ _ _ _ _ _ _ _ _ _ _ _ _ _ _ _ _ _ _ _ _ _ (cond23 t) (cond24 t)
    (argsOf m c).a0 (sub (argsOf m c).a1 0 (512 * (t.val % 4)) (1024 * (t.val / 4))) (sub (argsOf m c).a2 0 (512 * (t.val % 4)) (1024 * (t.val / 4)))
    (sub (argsOf m c).a3 0 (512 * (t.val % 4)) (128 * (t.val / 4 / 2))) (sub (argsOf m c).a4 0 (1024 * (t.val / 4)) 0) (sub (argsOf m c).a5 0 (1024 * (t.val / 4)) 0)
    Y6 d11 d12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists Y7; iexact H7
  isplitl [H8]; · iexists Y8; iexact H8
  isplitl [HS0]; · iexact HS0
  isplitl [HS1]; · iexact HS1
  isplitl [HS2]; · iexists d13; iexact HS2
  rw [newW_eq (argsOf m c) t d11 d12 hI, parity_eq t]
  iintro ⟨H0, H1, H2, H3, H4, H5, H6, H7, H8, HS0, HS1, HS2⟩
  isplitl [HS0 HS1 HS2 Hg]
  · isplitl [HS0 HS1 HS2]
    · iexists _, _, _
      isplitr; swap
      · isplitl [HS0]; · iexact HS0
        isplitl [HS1]; · iexact HS1
        iexact HS2
      ipureintro
      exact inv_step (argsOf m c) t d11 d12 hI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    exact fun h15 => newOut_eq (argsOf m c) t d11 d12 hI Y6 h15
  isplitl [H7]
  · iexists _; isplitr; swap; · iexact H7
    ipureintro; rfl
  iexists _; isplitr; swap; · iexact H8
  ipureintro; rfl

/-- The pipeline's obligation on the body, at every point. -/
theorem body_obligationV (c : Dev nD) : Pipeline.BodyObligationRel (datsV m c) (defs₀ (F := Ideal)) Variants.none () Set.univ forgets0 (Rl0 (argsOf m c)) := fun t => by
  rw [bigSep_W0, bigSep_W0, defs₀_row]
  exact triple_restated (sound_bodyV m c t) rfl .rfl fun _ => .rfl

theorem inv_zero (a : Args) (d11 d12) : a.Inv 0 d11 d12 := ⟨fun j hj r q hn => by omega, fun h => absurd rfl h⟩

set_option maxHeartbeats 4000000 in
/-- Before the first point nothing is asked of the scratch buffers. -/
theorem phi_in (c : Dev nD) : (Pipeline.ΦA spec0 c : sProp 𝕄) ⊢ (datsV m c).Φ 0 := by
  rw [PhiA0_eq]
  rw [show (datsV m c).Φ 0 = PhiV (argsOf m c) c 0 from rfl]
  unfold PhiV
  iintro ⟨⟨⟨%d11, HS0⟩, ⟨%d12, HS1⟩, ⟨%d13, HS2⟩⟩, Hg⟩
  isplitl [HS0 HS1 HS2]
  · iexists d11, d12, d13
    isplitr; swap
    · isplitl [HS0]; · iexact HS0
      isplitl [HS1]; · iexact HS1
      iexact HS2
    ipureintro; exact inv_zero (argsOf m c) d11 d12
  iexact Hg

set_option maxHeartbeats 4000000 in
/-- After the last point the scratch buffers are given back. -/
theorem phi_out (c : Dev nD) : (datsV m c).Φ (Fin.last cfg0.N) ⊢ (Pipeline.ΦA spec0 c : sProp 𝕄) := by
  rw [PhiA0_eq]
  rw [show (datsV m c).Φ (Fin.last cfg0.N) = PhiV (argsOf m c) c (Fin.last cfg0.N).val from rfl]
  unfold PhiV
  iintro ⟨⟨%d11, %d12, %d13, -, HS0, HS1, HS2⟩, Hg⟩
  isplitl [HS0 HS1 HS2]
  · isplitl [HS0]; · iexists d11; iexact HS0
    isplitl [HS1]; · iexists d12; iexact HS1
    iexists d13; iexact HS2
  iexact Hg

set_option backward.isDefEq.respectTransparency.types false in
/-- The launch with the output windows held to `Rl0`. -/
theorem run_mainV : θ_run defs (onTc (τ := τ) (main (F := Ideal))) (s₀ m ρ)
    (Pipeline.RDat.FramePost (cfgs 0) (fun c => (datsV m c).toRRel forgets0 (Rl0 (argsOf m c))) (V m)) :=
  Pipeline.RDat.θ_run_frame_track cfgs (0 : Fin 1) launch0 defs₀ Variants.none (fun c => (datsV m c).toRRel forgets0 (Rl0 (argsOf m c))) m ρ main
    (hbody := fun c => (body_obligationV m c).toRRel) (hshare := fun c => (datsV m c).share_full fun _ => rfl)
    (howed := fun _ _ => rfl) (V := V m) (hmain := hmain m Variants.none) (hA := AV_eq m)
    (hin := fun c => phi_in m c) (hout := fun c => phi_out m c)

/-! ## The three result arrays -/

/-- The first result: the input gradient. -/
def Args.out0 (a : Args) : S2048x2880.Idx → EReal :=
  fun y => a.dx ((y 0).val / 512) (ix2 ⟨(y 0).val % 512, Nat.mod_lt _ (by decide)⟩ (y 1))
/-- The second result: the packed codes. -/
def Args.out1 (a : Args) : S2048x8192.Idx → BitVec 8 :=
  fun y => a.codes ((y 1).val / 512) ((y 0).val / 512) (ix2 ⟨(y 0).val % 512, Nat.mod_lt _ (by decide)⟩ ⟨(y 1).val % 512, Nat.mod_lt _ (by decide)⟩)
/-- The third result: the block scales. -/
def Args.out2 (a : Args) : S2048x1024.Idx → EReal :=
  fun y => a.scales (2 * ((y 1).val / 128)) ((y 0).val / 512) (ix2 ⟨(y 0).val % 512, Nat.mod_lt _ (by decide)⟩ ⟨(y 1).val % 128, Nat.mod_lt _ (by decide)⟩)

theorem idx_6 : ∀ t : Fin grid0.N, win0_6.flush t = true → t.val / 4 = 15 ∧ win0_6.index t 0 = t.val % 4 ∧ win0_6.index t 1 = 0 := by decide +kernel
theorem idx_7 : ∀ t : Fin grid0.N, win0_7.index t 0 = t.val % 4 ∧ win0_7.index t 1 = t.val / 4 := by decide +kernel
theorem idx_8 : ∀ t : Fin grid0.N, win0_8.index t 0 = t.val % 4 ∧ win0_8.index t 1 = t.val / 4 / 2 := by decide +kernel
theorem flush_6 : ∀ i : Fin 4, ∃ t : Fin grid0.N, win0_6.flush t = true ∧ win0_6.index t 0 = i.val ∧ win0_6.index t 1 = 0 := by decide +kernel
theorem flush_7 : ∀ i : Fin 4, ∀ k : Fin 16, ∃ t : Fin grid0.N, win0_7.flush t = true ∧ win0_7.index t 0 = i.val ∧ win0_7.index t 1 = k.val := by decide +kernel
theorem flush_8 : ∀ i : Fin 4, ∀ k : Fin 8, ∃ t : Fin grid0.N, win0_8.flush t = true ∧ win0_8.index t 0 = i.val ∧ win0_8.index t 1 = k.val := by decide +kernel

theorem scales_half (a : Args) (k j : Nat) : a.scales (2 * (k / 2)) j = a.scales k j := by
  unfold Args.scales; rw [Nat.mul_div_cancel_left _ (by decide)]

variable {c : Dev nD} (after : (w' : Fin cfg0.W) → Fin cfg0.N → (cfg0.win w').block.Idx → Elt Ideal (cfg0.win w').elt)

/-- An index of an array lies in the block of a point whose block indices are the index's quotients. -/
theorem mem_blk (w : Pipeline.Window sig grid0) (t : Fin grid0.N) (y : (w.xblock (grid0.coords t)).Idx) (z : w.shape.Idx)
    (h : ∀ a, ((w.rect t).emb y a).val = (z a).val) : w.arr.view.emb z ∈ (w.blk t).view.set := by
  have e : (w.blk t).view.emb y = w.arr.view.emb z := congrArg w.arr.view.emb (funext fun a => Fin.ext (h a))
  exact e ▸ (w.blk t).view.emb_mem_set y

/-- Block `t` of result 0. -/
theorem out0_blk (a : Args) (t : Fin grid0.N) (hf : win0_6.flush t = true) (y : S512x2880.Idx) (z : S2048x2880.Idx)
    (h0 : (z 0).val = win0_6.index t 0 * 512 + (y 0).val) (h1 : (z 1).val = win0_6.index t 1 * 2880 + (y 1).val) :
    a.dx (t.val % 4) y = a.out0 z := by
  have hy0 : (y 0).val < 512 := idx2_lt0 y
  have hy1 : (y 1).val < 2880 := idx2_lt1 y
  obtain ⟨h15, i0, i1⟩ := idx_6 t hf
  rw [i0] at h0; rw [i1] at h1
  have ht : t.val < 64 := t.isLt
  unfold Args.out0
  rw [show (z 0).val / 512 = t.val % 4 from by omega]
  exact congrArg (a.dx (t.val % 4)) (funext fun b => Fin.ext (by
    revert b
    refine Fin.forall_fin_two.mpr ⟨?_, ?_⟩
    · show (y 0).val = (z 0).val % 512; omega
    · show (y 1).val = (z 1).val; omega))

/-- Result 0 after the run, whatever each point left in its buffer, provided it is what `Rl0` says. -/
theorem arr6 (h : ∀ u : Fin cfg0.N, (cfg0.win 6).flush u = true → Rl0 (argsOf m c) 6 u (after 6 u)) :
    (((datsV m c).toRRel forgets0 (Rl0 (argsOf m c))).withAfter after).arrAt 6 cfg0.N = (argsOf m c).out0 := by
  refine Pipeline.Dat.arrAt_eq_of_cover _ 6 _ (fun t hf => ?_) (fun i => ?_)
  · have hX : after 6 t = (argsOf m c).dx (t.val % 4) := h t hf (idx_6 t hf).1
    funext y
    show after 6 t _ = _
    rw [hX]
    refine out0_blk (argsOf m c) t hf _ _ ?_ ?_
    · exact Pipeline.Window.rect_emb_val win0_6 t y 0
    · exact Pipeline.Window.rect_emb_val win0_6 t y 1
  · have h0 : (i 0).val < 2048 := (i 0).isLt
    have h1 : (i 1).val < 2880 := (i 1).isLt
    obtain ⟨t, hf, i0, i1⟩ := flush_6 ⟨(i 0).val / 512, by omega⟩
    refine ⟨t, hf, ?_⟩
    refine mem_blk win0_6 t (ix2 (n0 := 512) (n1 := 2880) ⟨(i 0).val % 512, Nat.mod_lt _ (by decide)⟩ ⟨(i 1).val % 2880, Nat.mod_lt _ (by decide)⟩) i ?_
    refine Fin.forall_fin_two.mpr ⟨?_, ?_⟩
    · refine (Pipeline.Window.rect_emb_val win0_6 t _ 0).trans ?_
      rw [i0]
      show (i 0).val / 512 * 512 + (i 0).val % 512 = (i 0).val
      omega
    · refine (Pipeline.Window.rect_emb_val win0_6 t _ 1).trans ?_
      rw [i1]
      show 0 * 2880 + (i 1).val % 2880 = (i 1).val
      omega

/-- Block `t` of result 1. -/
theorem out1_blk (a : Args) (t : Fin grid0.N) (hf : win0_7.flush t = true) (y : S512x512.Idx) (z : S2048x8192.Idx)
    (h0 : (z 0).val = win0_7.index t 0 * 512 + (y 0).val) (h1 : (z 1).val = win0_7.index t 1 * 512 + (y 1).val) :
    a.codes (t.val / 4) (t.val % 4) y = a.out1 z := by
  have hy0 : (y 0).val < 512 := idx2_lt0 y
  have hy1 : (y 1).val < 512 := idx2_lt1 y
  obtain ⟨i0, i1⟩ := idx_7 t
  rw [i0] at h0; rw [i1] at h1
  have ht : t.val < 64 := t.isLt
  unfold Args.out1
  rw [show (z 0).val / 512 = t.val % 4 from by omega, show (z 1).val / 512 = t.val / 4 from by omega]
  exact congrArg (a.codes (t.val / 4) (t.val % 4)) (funext fun b => Fin.ext (by
    revert b
    refine Fin.forall_fin_two.mpr ⟨?_, ?_⟩
    · show (y 0).val = (z 0).val % 512; omega
    · show (y 1).val = (z 1).val % 512; omega))

/-- Result 1 after the run, whatever each point left in its buffer, provided it is what `Rl0` says. -/
theorem arr7 (h : ∀ u : Fin cfg0.N, (cfg0.win 7).flush u = true → Rl0 (argsOf m c) 7 u (after 7 u)) :
    (((datsV m c).toRRel forgets0 (Rl0 (argsOf m c))).withAfter after).arrAt 7 cfg0.N = (argsOf m c).out1 := by
  refine Pipeline.Dat.arrAt_eq_of_cover _ 7 _ (fun t hf => ?_) (fun i => ?_)
  · have hX : after 7 t = (argsOf m c).codes (t.val / 4) (t.val % 4) := h t hf
    funext y
    show after 7 t _ = _
    rw [hX]
    refine out1_blk (argsOf m c) t hf _ _ ?_ ?_
    · exact Pipeline.Window.rect_emb_val win0_7 t y 0
    · exact Pipeline.Window.rect_emb_val win0_7 t y 1
  · have h0 : (i 0).val < 2048 := (i 0).isLt
    have h1 : (i 1).val < 8192 := (i 1).isLt
    obtain ⟨t, hf, i0, i1⟩ := flush_7 ⟨(i 0).val / 512, by omega⟩ ⟨(i 1).val / 512, by omega⟩
    refine ⟨t, hf, ?_⟩
    refine mem_blk win0_7 t (ix2 (n0 := 512) (n1 := 512) ⟨(i 0).val % 512, Nat.mod_lt _ (by decide)⟩ ⟨(i 1).val % 512, Nat.mod_lt _ (by decide)⟩) i ?_
    refine Fin.forall_fin_two.mpr ⟨?_, ?_⟩
    · refine (Pipeline.Window.rect_emb_val win0_7 t _ 0).trans ?_
      rw [i0]
      show (i 0).val / 512 * 512 + (i 0).val % 512 = (i 0).val
      omega
    · refine (Pipeline.Window.rect_emb_val win0_7 t _ 1).trans ?_
      rw [i1]
      show (i 1).val / 512 * 512 + (i 1).val % 512 = (i 1).val
      omega

/-- Block `t` of result 2. -/
theorem out2_blk (a : Args) (t : Fin grid0.N) (hf : win0_8.flush t = true) (y : S512x128.Idx) (z : S2048x1024.Idx)
    (h0 : (z 0).val = win0_8.index t 0 * 512 + (y 0).val) (h1 : (z 1).val = win0_8.index t 1 * 128 + (y 1).val) :
    a.scales (t.val / 4) (t.val % 4) y = a.out2 z := by
  have hy0 : (y 0).val < 512 := idx2_lt0 y
  have hy1 : (y 1).val < 128 := idx2_lt1 y
  obtain ⟨i0, i1⟩ := idx_8 t
  rw [i0] at h0; rw [i1] at h1
  have ht : t.val < 64 := t.isLt
  unfold Args.out2
  rw [show (z 0).val / 512 = t.val % 4 from by omega, show (z 1).val / 128 = t.val / 4 / 2 from by omega, scales_half]
  exact congrArg (a.scales (t.val / 4) (t.val % 4)) (funext fun b => Fin.ext (by
    revert b
    refine Fin.forall_fin_two.mpr ⟨?_, ?_⟩
    · show (y 0).val = (z 0).val % 512; omega
    · show (y 1).val = (z 1).val % 128; omega))

/-- Result 2 after the run, whatever each point left in its buffer, provided it is what `Rl0` says. -/
theorem arr8 (h : ∀ u : Fin cfg0.N, (cfg0.win 8).flush u = true → Rl0 (argsOf m c) 8 u (after 8 u)) :
    (((datsV m c).toRRel forgets0 (Rl0 (argsOf m c))).withAfter after).arrAt 8 cfg0.N = (argsOf m c).out2 := by
  refine Pipeline.Dat.arrAt_eq_of_cover _ 8 _ (fun t hf => ?_) (fun i => ?_)
  · have hX : after 8 t = (argsOf m c).scales (t.val / 4) (t.val % 4) := h t hf
    funext y
    show after 8 t _ = _
    rw [hX]
    refine out2_blk (argsOf m c) t hf _ _ ?_ ?_
    · exact Pipeline.Window.rect_emb_val win0_8 t y 0
    · exact Pipeline.Window.rect_emb_val win0_8 t y 1
  · have h0 : (i 0).val < 2048 := (i 0).isLt
    have h1 : (i 1).val < 1024 := (i 1).isLt
    obtain ⟨t, hf, i0, i1⟩ := flush_8 ⟨(i 0).val / 512, by omega⟩ ⟨(i 1).val / 128, by omega⟩
    refine ⟨t, hf, ?_⟩
    refine mem_blk win0_8 t (ix2 (n0 := 512) (n1 := 128) ⟨(i 0).val % 512, Nat.mod_lt _ (by decide)⟩ ⟨(i 1).val % 128, Nat.mod_lt _ (by decide)⟩) i ?_
    refine Fin.forall_fin_two.mpr ⟨?_, ?_⟩
    · refine (Pipeline.Window.rect_emb_val win0_8 t _ 0).trans ?_
      rw [i0]
      show (i 0).val / 512 * 512 + (i 0).val % 512 = (i 0).val
      omega
    · refine (Pipeline.Window.rect_emb_val win0_8 t _ 1).trans ?_
      rw [i1]
      show (i 1).val / 128 * 128 + (i 1).val % 128 = (i 1).val
      omega

/-- The kernel's run: its three results are these functions of its arguments, which end unchanged. -/
theorem run_values : θ_run defs (onTc (τ := τ) (main (F := Ideal))) ⟨m, fun _ => 0, ρ⟩ (fun r => ∀ c : Dev nD,
      r.2.mem ((c : Thread nD τ).loc main_v0_0) = (argsOf m c).out0
      ∧ r.2.mem ((c : Thread nD τ).loc main_v0_1) = (argsOf m c).out1
      ∧ r.2.mem ((c : Thread nD τ).loc main_v0_2) = (argsOf m c).out2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r hh c => by
    obtain ⟨after, hL, hA⟩ := Pipeline.RDat.FramePost.exists_exact hh c
    have hR : ∀ w, forgets0 w = true → ∀ u : Fin cfg0.N, (cfg0.win w).flush u = true → Rl0 (argsOf m c) w u (after w u) :=
      fun w hw u hf => Pipeline.Dat.toRRel_leaves (datsV m c) hw (hL w u hf)
    exact ⟨(hA 6).trans (arr6 m after (hR 6 rfl)), (hA 7).trans (arr7 m after (hR 7 rfl)), (hA 8).trans (arr8 m after (hR 8 rfl)),
      (Pipeline.RDat.FramePost.arr_in hh c 0 rfl).trans ((AV_eq m c 0).trans (V_main_arg0 m c)),
      (Pipeline.RDat.FramePost.arr_in hh c 1 rfl).trans ((AV_eq m c 1).trans (V_main_arg1 m c)),
      (Pipeline.RDat.FramePost.arr_in hh c 2 rfl).trans ((AV_eq m c 2).trans (V_main_arg2 m c)),
      (Pipeline.RDat.FramePost.arr_in hh c 3 rfl).trans ((AV_eq m c 3).trans (V_main_arg3 m c)),
      (Pipeline.RDat.FramePost.arr_in hh c 4 rfl).trans ((AV_eq m c 4).trans (V_main_arg4 m c)),
      (Pipeline.RDat.FramePost.arr_in hh c 5 rfl).trans ((AV_eq m c 5).trans (V_main_arg5 m c))⟩) (run_mainV m ρ)

end Cert.KernelIdeal.Gen

end
-- ==== Proof.ReferenceValues.lean ====
/- The three results of the reference over the extended reals, each as one expression of the six arguments. -/
module

public import proofs.«01_k».proof.Proof.Gen.ReferenceIdeal.Value
public import Idealize.ShloMosaic.PureOps.Ideal
public import Idealize.ShloMosaic.Lib.Pipeline.ReadBack
public import Idealize.ShloMosaic.Lib.ValueIdxCore
public import Idealize.ShloMosaic.Lib.IdealHost
public import Idealize.ShloMosaic.Lib.Pipeline.ValueKit.Acc
public import Idealize.ShloMosaic.Lib.Pipeline.ValueKit.Geometry

@[expose] public section

set_option maxRecDepth 65536

noncomputable section

namespace Cert.ReferenceIdeal.Gen

open Idealize.ShloMosaic Idealize.ShloMosaic.TcCoe Idealize.ShloMosaic.Tactic Idealize.SL.Sem
open Idealize.ShloMosaic.ValueIdx
open Idealize.ShloMosaic.Pipeline (Dat)

section Pay
variable (g : EReal) (x1 : S2048x16384.Idx → EReal) (x2 : S2048x16384.Idx → BitVec 32) (x3 : S2048x1024.Idx → EReal)
  (x4 : S16384x1440.Idx → BitVec 8) (x5 : S16384x180.Idx → EReal)

/-- The number the code of an element stands for, without its sign. -/
def refQ : S2048x16384.Idx → EReal :=
  k0_pay5 (F := Ideal) (k0_pay3 (F := Ideal) g x1 x3) (k0_pay4 (F := Ideal) g x1 x3) x2
/-- The codes, one to a word. -/
def refCode : S2048x16384.Idx → BitVec 32 :=
  k0_pay10 (F := Ideal) (k0_pay2 (F := Ideal) g x1 x3) (refQ g x1 x2 x3)
    (k0_pay6 (F := Ideal) (k0_pay3 (F := Ideal) g x1 x3) (k0_pay4 (F := Ideal) g x1 x3) x2)
    (k0_pay7 (F := Ideal) (k0_pay3 (F := Ideal) g x1 x3) (k0_pay4 (F := Ideal) g x1 x3) x2)
    (k0_pay8 (F := Ideal) (k0_pay3 (F := Ideal) g x1 x3) (k0_pay4 (F := Ideal) g x1 x3) x2)
    (k0_pay9 (F := Ideal) (k0_pay3 (F := Ideal) g x1 x3) (k0_pay4 (F := Ideal) g x1 x3) x2)
    (Ideal.ofBits .f32 0x40800000#32)
/-- The packed codes. -/
def refBytes : S2048x8192.Idx → BitVec 8 :=
  k0_pay11 (F := Ideal) (k0_pay2 (F := Ideal) g x1 x3) (refQ g x1 x2 x3)
    (k0_pay6 (F := Ideal) (k0_pay3 (F := Ideal) g x1 x3) (k0_pay4 (F := Ideal) g x1 x3) x2)
    (k0_pay7 (F := Ideal) (k0_pay3 (F := Ideal) g x1 x3) (k0_pay4 (F := Ideal) g x1 x3) x2)
    (k0_pay8 (F := Ideal) (k0_pay3 (F := Ideal) g x1 x3) (k0_pay4 (F := Ideal) g x1 x3) x2)
    (k0_pay9 (F := Ideal) (k0_pay3 (F := Ideal) g x1 x3) (k0_pay4 (F := Ideal) g x1 x3) x2)
    (Ideal.ofBits .f32 0x40800000#32)
/-- The dequantised values. -/
def refDy : S2048x16384.Idx → EReal :=
  k0_pay17 (F := Ideal) (k0_pay1 (F := Ideal) g x3)
    (andi (shrsi (refCode g x1 x2 x3) (broadcast S2048x16384 3#32)) (broadcast S2048x16384 1#32))
    (andi (shrsi (refCode g x1 x2 x3) (broadcast S2048x16384 1#32)) (broadcast S2048x16384 3#32))
    (sitofp (F := Ideal) .f32 (andi (refCode g x1 x2 x3) (broadcast S2048x16384 1#32)))
    (cmpi .eq (andi (shrsi (refCode g x1 x2 x3) (broadcast S2048x16384 1#32)) (broadcast S2048x16384 3#32)) (broadcast S2048x16384 1#32))
    (cmpi .eq (andi (shrsi (refCode g x1 x2 x3) (broadcast S2048x16384 1#32)) (broadcast S2048x16384 3#32)) (broadcast S2048x16384 2#32))
    (Ideal.ofBits .f32 0x40000000#32) (Ideal.ofBits .f32 0x40800000#32)
/-- The output. -/
def refOut (o : EReal) : S2048x2880.Idx → EReal :=
  k0_pay21 (F := Ideal) (refDy g x1 x2 x3) (k0_pay18 (F := Ideal) x4) (k0_pay19 (F := Ideal) x4) (k0_pay20 (F := Ideal) x4) 1#32 x5 o
end Pay

variable (m : (ℓ : Loc nD τ sig) → Buf (Elt Ideal) ℓ)

theorem idx_0 : win0_0.index t0_0 0 = 0 ∧ win0_0.index t0_0 1 = 0 := by decide +kernel
/-- Argument 0's block is the whole array. -/
theorem blk_0 (c : Dev nD) (t : Fin cfg0.N) : iblk m c 0 t = (V m c main_arg0 : S1x2.Idx → _) := by
  obtain rfl := fin_N0 t
  funext y
  refine congrArg (V m c main_arg0) (funext fun a => Fin.ext ?_)
  refine (Pipeline.Window.rect_emb_val win0_0 t0_0 y a).trans ?_
  fin_cases a
  · exact (congrArg (· * _ + (y 0).val) idx_0.1).trans ((congrArg (· + (y 0).val) (Nat.zero_mul _)).trans (Nat.zero_add _))
  · exact (congrArg (· * _ + (y 1).val) idx_0.2).trans ((congrArg (· + (y 1).val) (Nat.zero_mul _)).trans (Nat.zero_add _))
theorem idx_1 : win0_1.index t0_0 0 = 0 ∧ win0_1.index t0_0 1 = 0 := by decide +kernel
/-- Argument 1's block is the whole array. -/
theorem blk_1 (c : Dev nD) (t : Fin cfg0.N) : iblk m c 1 t = (V m c main_arg1 : S2048x16384.Idx → _) := by
  obtain rfl := fin_N0 t
  funext y
  refine congrArg (V m c main_arg1) (funext fun a => Fin.ext ?_)
  refine (Pipeline.Window.rect_emb_val win0_1 t0_0 y a).trans ?_
  fin_cases a
  · exact (congrArg (· * _ + (y 0).val) idx_1.1).trans ((congrArg (· + (y 0).val) (Nat.zero_mul _)).trans (Nat.zero_add _))
  · exact (congrArg (· * _ + (y 1).val) idx_1.2).trans ((congrArg (· + (y 1).val) (Nat.zero_mul _)).trans (Nat.zero_add _))
theorem idx_2 : win0_2.index t0_0 0 = 0 ∧ win0_2.index t0_0 1 = 0 := by decide +kernel
/-- Argument 2's block is the whole array. -/
theorem blk_2 (c : Dev nD) (t : Fin cfg0.N) : iblk m c 2 t = (V m c main_arg2 : S2048x16384.Idx → _) := by
  obtain rfl := fin_N0 t
  funext y
  refine congrArg (V m c main_arg2) (funext fun a => Fin.ext ?_)
  refine (Pipeline.Window.rect_emb_val win0_2 t0_0 y a).trans ?_
  fin_cases a
  · exact (congrArg (· * _ + (y 0).val) idx_2.1).trans ((congrArg (· + (y 0).val) (Nat.zero_mul _)).trans (Nat.zero_add _))
  · exact (congrArg (· * _ + (y 1).val) idx_2.2).trans ((congrArg (· + (y 1).val) (Nat.zero_mul _)).trans (Nat.zero_add _))
theorem idx_3 : win0_3.index t0_0 0 = 0 ∧ win0_3.index t0_0 1 = 0 := by decide +kernel
/-- Argument 3's block is the whole array. -/
theorem blk_3 (c : Dev nD) (t : Fin cfg0.N) : iblk m c 3 t = (V m c main_arg3 : S2048x1024.Idx → _) := by
  obtain rfl := fin_N0 t
  funext y
  refine congrArg (V m c main_arg3) (funext fun a => Fin.ext ?_)
  refine (Pipeline.Window.rect_emb_val win0_3 t0_0 y a).trans ?_
  fin_cases a
  · exact (congrArg (· * _ + (y 0).val) idx_3.1).trans ((congrArg (· + (y 0).val) (Nat.zero_mul _)).trans (Nat.zero_add _))
  · exact (congrArg (· * _ + (y 1).val) idx_3.2).trans ((congrArg (· + (y 1).val) (Nat.zero_mul _)).trans (Nat.zero_add _))
theorem idx_4 : win0_4.index t0_0 0 = 0 ∧ win0_4.index t0_0 1 = 0 := by decide +kernel
/-- Argument 4's block is the whole array. -/
theorem blk_4 (c : Dev nD) (t : Fin cfg0.N) : iblk m c 4 t = (V m c main_arg4 : S16384x1440.Idx → _) := by
  obtain rfl := fin_N0 t
  funext y
  refine congrArg (V m c main_arg4) (funext fun a => Fin.ext ?_)
  refine (Pipeline.Window.rect_emb_val win0_4 t0_0 y a).trans ?_
  fin_cases a
  · exact (congrArg (· * _ + (y 0).val) idx_4.1).trans ((congrArg (· + (y 0).val) (Nat.zero_mul _)).trans (Nat.zero_add _))
  · exact (congrArg (· * _ + (y 1).val) idx_4.2).trans ((congrArg (· + (y 1).val) (Nat.zero_mul _)).trans (Nat.zero_add _))
theorem idx_5 : win0_5.index t0_0 0 = 0 ∧ win0_5.index t0_0 1 = 0 := by decide +kernel
/-- Argument 5's block is the whole array. -/
theorem blk_5 (c : Dev nD) (t : Fin cfg0.N) : iblk m c 5 t = (V m c main_arg5 : S16384x180.Idx → _) := by
  obtain rfl := fin_N0 t
  funext y
  refine congrArg (V m c main_arg5) (funext fun a => Fin.ext ?_)
  refine (Pipeline.Window.rect_emb_val win0_5 t0_0 y a).trans ?_
  fin_cases a
  · exact (congrArg (· * _ + (y 0).val) idx_5.1).trans ((congrArg (· + (y 0).val) (Nat.zero_mul _)).trans (Nat.zero_add _))
  · exact (congrArg (· * _ + (y 1).val) idx_5.2).trans ((congrArg (· + (y 1).val) (Nat.zero_mul _)).trans (Nat.zero_add _))

/-- A one-element load of the scalars reads the element. -/
theorem ld00 (X : S1x2.Idx → EReal) (h : 0 < (S1x1 : Shape).numel) (hi) :
    View.ld (Val := Elt Ideal) (e' := .f32) X (Rect.unit (s := S1x2) ![0, 0] ![1, 1] hi) (Shape.Idx.first h) = X (ix2 0 0) :=
  congrArg X (funext fun a => Fin.ext (by fin_cases a <;> rfl))
theorem ld01 (X : S1x2.Idx → EReal) (h : 0 < (S1x1 : Shape).numel) (hi) :
    View.ld (Val := Elt Ideal) (e' := .f32) X (Rect.unit (s := S1x2) ![0, 1] ![1, 1] hi) (Shape.Idx.first h) = X (ix2 0 1) :=
  congrArg X (funext fun a => Fin.ext (by fin_cases a <;> rfl))

/-- The scales the reference leaves. -/
theorem arr8 (c : Dev nD) : (dats m 0 c).arrAt 8 cfg0.N
    = k0_pay1 (F := Ideal) (V m c main_arg0 (ix2 0 0)) (V m c main_arg3) := by
  refine (dats m 0 c).arrAt_eq_of_after_last 8 t0_0 (by decide +kernel) _ fun j => ?_
  blk_simp
  rw [after0_8]
  simp only [outsAt0]
  rw [blk_0, blk_1, blk_2, blk_3, blk_4, blk_5]
  frame_out
  simp only [read_unread_whole]
  exact congrFun (congrArg (k0_pay1 (F := Ideal) · (V m c main_arg3)) (ld00 _ _ _)) j

/-- The packed codes the reference leaves. -/
theorem arr7 (c : Dev nD) : (dats m 0 c).arrAt 7 cfg0.N
    = refBytes (V m c main_arg0 (ix2 0 0)) (V m c main_arg1) (V m c main_arg2) (V m c main_arg3) := by
  refine (dats m 0 c).arrAt_eq_of_after_last 7 t0_0 (by decide +kernel) _ fun j => ?_
  blk_simp
  rw [after0_7]
  simp only [outsAt0]
  rw [blk_0, blk_1, blk_2, blk_3, blk_4, blk_5]
  frame_out
  simp only [read_unread_whole]
  rw [ld00]
  unfold refBytes refQ
  rfl

/-- The output the reference leaves. -/
theorem arr6 (c : Dev nD) : (dats m 0 c).arrAt 6 cfg0.N
    = refOut (V m c main_arg0 (ix2 0 0)) (V m c main_arg1) (V m c main_arg2) (V m c main_arg3) (V m c main_arg4) (V m c main_arg5)
        (V m c main_arg0 (ix2 0 1)) := by
  refine (dats m 0 c).arrAt_eq_of_after_last 6 t0_0 (by decide +kernel) _ fun j => ?_
  blk_simp
  rw [after0_6]
  simp only [outsAt0]
  rw [blk_0, blk_1, blk_2, blk_3, blk_4, blk_5]
  frame_out
  simp only [read_unread_whole]
  rw [ld00, ld01]
  unfold refOut refDy refCode refQ
  rfl

end Cert.ReferenceIdeal.Gen
end
-- ==== Proof.Elements.lean ====
/- The quantisation of one element over the extended reals: the kernel's fixed-point word and the reference's floors choose the same code. -/
module
public import proofs.«01_k».proof.Proof.Quant

@[expose] public section

set_option maxRecDepth 16384

noncomputable section

namespace Cert.KernelIdeal.Gen

open Idealize.ShloMosaic Idealize.ShloMosaic.ValueIdx

/-! ## Constants -/

theorem f0 : Ideal.ofBits .f32 0x00000000#32 = ((0 : ℝ) : EReal) := by simp [Ideal.ofBits, Ideal.ieee]
theorem f1 : Ideal.ofBits .f32 0x3F800000#32 = ((1 : ℝ) : EReal) := by simp [Ideal.ofBits, Ideal.ieee]; norm_num; rw [← EReal.coe_mul]; norm_num
theorem fhalf : Ideal.ofBits .f32 0x3F000000#32 = ((1 / 2 : ℝ) : EReal) := by simp [Ideal.ofBits, Ideal.ieee]; norm_num; rw [← EReal.coe_mul]; norm_num
theorem f2 : Ideal.ofBits .f32 0x40000000#32 = ((2 : ℝ) : EReal) := by simp [Ideal.ofBits, Ideal.ieee]; norm_num; rw [← EReal.coe_mul]; norm_num
theorem f4 : Ideal.ofBits .f32 0x40800000#32 = ((4 : ℝ) : EReal) := by simp [Ideal.ofBits, Ideal.ieee]; norm_num; rw [← EReal.coe_mul]; norm_num
theorem f6 : Ideal.ofBits .f32 0x40C00000#32 = ((6 : ℝ) : EReal) := by simp [Ideal.ofBits, Ideal.ieee]; norm_num; rw [← EReal.coe_mul]; norm_num
theorem f7 : Ideal.ofBits .f32 0x40E00000#32 = ((7 : ℝ) : EReal) := by simp [Ideal.ofBits, Ideal.ieee]; norm_num; rw [← EReal.coe_mul]; norm_num
theorem f8 : Ideal.ofBits .f32 0x41000000#32 = ((8 : ℝ) : EReal) := by simp [Ideal.ofBits, Ideal.ieee]; norm_num; rw [← EReal.coe_mul]; norm_num
theorem f12 : Ideal.ofBits .f32 0x41400000#32 = ((12 : ℝ) : EReal) := by simp [Ideal.ofBits, Ideal.ieee]; norm_num; rw [← EReal.coe_mul]; norm_num
theorem f64 : Ideal.ofBits .f32 0x42800000#32 = ((64 : ℝ) : EReal) := by simp [Ideal.ofBits, Ideal.ieee]; norm_num; rw [← EReal.coe_mul]; norm_num
theorem f448 : Ideal.ofBits .f32 0x43E00000#32 = ((448 : ℝ) : EReal) := by simp [Ideal.ofBits, Ideal.ieee]; norm_num; rw [← EReal.coe_mul]; norm_num
theorem fp23 : Ideal.ofBits .f32 0x4B000000#32 = ((8388608 : ℝ) : EReal) := by simp [Ideal.ofBits, Ideal.ieee]
theorem fp22 : Ideal.ofBits .f32 0x4A800000#32 = ((4194304 : ℝ) : EReal) := by simp [Ideal.ofBits, Ideal.ieee]; norm_num; rw [← EReal.coe_mul]; norm_num
theorem fp21 : Ideal.ofBits .f32 0x4A000000#32 = ((2097152 : ℝ) : EReal) := by simp [Ideal.ofBits, Ideal.ieee]; norm_num; rw [← EReal.coe_mul]; norm_num
theorem fp20 : Ideal.ofBits .f32 0x49800000#32 = ((1048576 : ℝ) : EReal) := by simp [Ideal.ofBits, Ideal.ieee]; norm_num; rw [← EReal.coe_mul]; norm_num
theorem fm22 : Ideal.ofBits .f32 0x34800000#32 = ((1 / 4194304 : ℝ) : EReal) := by simp [Ideal.ofBits, Ideal.ieee]; norm_num; rw [← EReal.coe_mul]; norm_num

theorem sel_lt {α : Type} (x y : EReal) (a b : α) : Scalar.select (Ideal.cmp .olt x y) a b = if x < y then a else b := by
  unfold Scalar.select Ideal.cmp; by_cases h : x < y <;> simp [h]
theorem sel_gt {α : Type} (x y : EReal) (a b : α) : Scalar.select (Ideal.cmp .ogt x y) a b = if y < x then a else b := by
  unfold Scalar.select Ideal.cmp; by_cases h : y < x <;> simp [h]
theorem sel_eq {α : Type} (x y : EReal) (a b : α) : Scalar.select (Ideal.cmp .oeq x y) a b = if x = y then a else b := by
  unfold Scalar.select Ideal.cmp; by_cases h : x = y <;> simp [h]

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-! ## The word -/

/-- The magnitude code out of the shifted difference of the random number and the fixed-point word. -/
theorem mag_word (U k D : ℕ) (hU : U < 4194304) (hk : k ≤ 7) (hD : D ≤ 4194304) :
    magByte ((((BitVec.ofNat 32 U) - (BitVec.ofNat 32 (4194304 * 254 + (4194304 * k + D)))).sshiftRight 22).setWidth 8)
      = BitVec.ofNat 8 ((k + if U < D then 1 else 0) % 8) := by
  have e : (((BitVec.ofNat 32 U) - (BitVec.ofNat 32 (4194304 * 254 + (4194304 * k + D)))).sshiftRight 22).setWidth 8
      = BitVec.ofNat 8 (770 - k - if U < D then 1 else 0) := by
    have e1 : ∀ w : BitVec 32, (w.sshiftRight 22).setWidth 8 = (w >>> 22).setWidth 8 := by
      intro w; apply BitVec.eq_of_getLsbD_eq; intro i hi
      interval_cases i <;> simp [BitVec.getElem_sshiftRight]
    rw [e1]
    apply BitVec.eq_of_toNat_eq
    simp only [BitVec.toNat_setWidth, BitVec.toNat_ushiftRight, BitVec.toNat_sub, BitVec.toNat_ofNat, Nat.shiftRight_eq_div_pow]
    split <;> omega
  rw [e]
  split <;> interval_cases k <;> decide

/-- The position of a clipped magnitude on the code axis: the code below plus how far it is to the next. -/
def pos (a : ℝ) : ℝ := if a < 2 then 2 * a else if a < 4 then a + 2 else a / 2 + 4
/-- The number a magnitude code stands for. -/
def val (n : ℕ) : ℝ := if n ≤ 4 then n / 2 else if n ≤ 6 then n - 2 else 6

theorem pos_bounds (a : ℝ) (h0 : 0 ≤ a) (h6 : a ≤ 6) : 0 ≤ pos a ∧ pos a ≤ 7 := by
  unfold pos; split_ifs <;> constructor <;> linarith

theorem fptosi_ceil (r : ℝ) (h0 : 0 ≤ r) (h1 : r ≤ 100000000) :
    Ideal.fptosi 32 (Ideal.liftRound Int.ceil (r : EReal)) = BitVec.ofNat 32 ⌈r⌉.toNat := by
  have c0 : 0 ≤ ⌈r⌉ := Int.ceil_nonneg h0
  have c1 : ⌈r⌉ ≤ 100000000 := Int.ceil_le.2 (by exact_mod_cast h1)
  show BitVec.ofInt 32 (max _ (min _ (if (0 : ℝ) ≤ ((⌈r⌉ : ℤ) : ℝ) then ⌊((⌈r⌉ : ℤ) : ℝ)⌋ else _))) = _
  rw [if_pos (by exact_mod_cast c0), Int.floor_intCast]
  have e : max (-((2 ^ (32 - 1) : ℕ) : ℤ)) (min (((2 ^ (32 - 1) : ℕ) : ℤ) - 1) ⌈r⌉) = (⌈r⌉.toNat : ℤ) := by
    norm_num; omega
  rw [e, BitVec.ofInt_natCast]

/-- The scalar word of a clipped position. -/
def bitsOf (y : EReal) : BitVec 32 := qBits (F := Ideal) (s := ⟨0, ![]⟩) (fun _ => y) ix0

theorem bits_eq (a : ℝ) (h0 : 0 ≤ a) (h6 : a ≤ 6) :
    bitsOf ((min (max (a + 1) (2 * a)) 12 : ℝ) : EReal) = BitVec.ofNat 32 (4194304 * 254 + ⌈4194304 * pos a⌉.toNat) := by
  have hb := pos_bounds a h0 h6
  show IntOp.addi (IntOp.shli .vector (Scalar.select (Ideal.cmp .olt _ _) _ (Scalar.select (Ideal.cmp .olt _ _) _ (Scalar.select (Ideal.cmp .olt _ _) _ _))) 23#32)
    (Ideal.fptosi 32 (Ideal.liftRound Int.ceil (_ * (Scalar.select (Ideal.cmp .olt _ _) _ (Scalar.select (Ideal.cmp .olt _ _) _ (Scalar.select (Ideal.cmp .olt _ _) _ _)))))) = _
  simp only [sel_lt, Scalar.ofBits, broadcast, FloatOps.scalar]
  rw [f2, f4, f8, fp23, fp22, fp21, fp20]
  simp only [EReal.coe_lt_coe_iff]
  have c0 : (0 : ℝ) ≤ 4194304 * pos a := by nlinarith [hb.1]
  have key : ∀ (E : BitVec 32) (S : ℝ) (e : ℕ), 0 ≤ (min (max (a + 1) (2 * a)) 12) * S → (min (max (a + 1) (2 * a)) 12) * S ≤ 100000000 →
      (min (max (a + 1) (2 * a)) 12) * S + e = 4194304 * pos a + 4194304 * 254 → E = BitVec.ofNat 32 e →
      E + BitVec.ofNat 32 ⌈(min (max (a + 1) (2 * a)) 12) * S⌉.toNat = BitVec.ofNat 32 (4194304 * 254 + ⌈4194304 * pos a⌉.toNat) := by
    intro E S e h1 h2 h3 h4
    have h5 : ⌈(min (max (a + 1) (2 * a)) 12) * S⌉ + (e : ℤ) = ⌈4194304 * pos a⌉ + ((4194304 * 254 : ℕ) : ℤ) := by
      rw [← Int.ceil_add_natCast, ← Int.ceil_add_natCast, h3]; norm_num
    have h6 : 0 ≤ ⌈(min (max (a + 1) (2 * a)) 12) * S⌉ := Int.ceil_nonneg h1
    have h7 : 0 ≤ ⌈4194304 * pos a⌉ := Int.ceil_nonneg c0
    rw [h4, ← BitVec.ofNat_add]
    congr 1
    omega
  have s2 : (min (max (a + 1) (2 * a)) 12) < 2 ↔ a < 1 := by
    constructor
    · intro h; by_contra h'; have : (2:ℝ) ≤ min (max (a + 1) (2 * a)) 12 := le_min (le_max_of_le_left (by linarith)) (by norm_num); linarith
    · intro h; exact lt_of_le_of_lt (min_le_left _ _) (max_lt (by linarith) (by linarith))
  by_cases hA : a < 1
  · have hy : min (max (a + 1) (2 * a)) 12 = a + 1 := by rw [max_eq_left (by linarith), min_eq_left (by linarith)]
    have hp : pos a = 2 * a := by unfold pos; rw [if_pos (by linarith)]
    rw [if_pos (s2.2 hA), if_pos (s2.2 hA), ← EReal.coe_mul, fptosi_ceil _ (by rw [hy]; linarith) (by rw [hy]; linarith)]
    refine key _ _ (126 * 8388608) (by rw [hy]; linarith) (by rw [hy]; linarith) (by rw [hy, hp]; push_cast; ring) (by decide)
  · have hy : min (max (a + 1) (2 * a)) 12 = 2 * a := by rw [max_eq_right (by linarith), min_eq_left (by linarith)]
    rw [if_neg (mt s2.1 hA), if_neg (mt s2.1 hA)]
    by_cases hB : a < 2
    · have hp : pos a = 2 * a := by unfold pos; rw [if_pos (by linarith)]
      rw [if_pos (by rw [hy]; linarith), if_pos (by rw [hy]; linarith), ← EReal.coe_mul, fptosi_ceil _ (by rw [hy]; linarith) (by rw [hy]; linarith)]
      refine key _ _ (127 * 8388608) (by rw [hy]; linarith) (by rw [hy]; linarith) (by rw [hy, hp]; push_cast; ring) (by decide)
    · have n4 : ¬ (min (max (a + 1) (2 * a)) 12) < 4 := by rw [hy]; linarith
      simp only [if_neg n4]
      by_cases hC : a < 4
      · have hp : pos a = a + 2 := by unfold pos; rw [if_neg (by linarith), if_pos (by linarith)]
        have n8 : (min (max (a + 1) (2 * a)) 12) < 8 := by rw [hy]; linarith
        simp only [if_pos n8]
        rw [← EReal.coe_mul, fptosi_ceil _ (by rw [hy]; linarith) (by rw [hy]; linarith)]
        refine key _ _ (128 * 8388608) (by rw [hy]; linarith) (by rw [hy]; linarith) (by rw [hy, hp]; push_cast; ring) (by decide)
      · have hp : pos a = a / 2 + 4 := by unfold pos; rw [if_neg (by linarith), if_neg (by linarith)]
        have n8 : ¬ (min (max (a + 1) (2 * a)) 12) < 8 := by rw [hy]; linarith
        simp only [if_neg n8]
        rw [← EReal.coe_mul, fptosi_ceil _ (by rw [hy]; linarith) (by rw [hy]; linarith)]
        refine key _ _ (129 * 8388608) (by rw [hy]; linarith) (by rw [hy]; linarith) (by rw [hy, hp]; push_cast; ring) (by decide)

/-! ## The reference's choice -/

/-- The reference's number for a clipped magnitude `a` and random word `w`. -/
def refNum (a : EReal) (w : BitVec 32) : EReal :=
  let lo := if a < 2 then Ideal.liftRound Int.floor (a * (2 : ℝ)) * (1 / 2 : ℝ) else if a < 4 then Ideal.liftRound Int.floor a else (4 : ℝ) + (2 : ℝ) * Ideal.liftRound Int.floor ((a - (4 : ℝ)) * (1 / 2 : ℝ))
  let st := if a < 2 then (1 / 2 : ℝ) else if a < 4 then (1 : ℝ) else (2 : ℝ)
  if (((w >>> 10).toNat : ℝ) : EReal) * (1 / 4194304 : ℝ) < (a - lo) * Ideal.div (1 : ℝ) st then lo + st else lo

theorem lt_ceil_iff (U : ℕ) (f : ℝ) (hf : 0 ≤ f) : U < ⌈4194304 * f⌉.toNat ↔ (U : ℝ) * (1 / 4194304) < f := by
  have h : U < ⌈4194304 * f⌉.toNat ↔ (U : ℤ) < ⌈4194304 * f⌉ := by omega
  rw [h, Int.lt_ceil]
  push_cast
  constructor <;> intro h <;> linarith

/-- What the two sides choose for a clipped magnitude: the code `n` of the kernel, the number `val n` of the reference. -/
theorem choice (a : ℝ) (h0 : 0 ≤ a) (h6 : a ≤ 6) (w : BitVec 32) :
    ∃ n : ℕ, n ≤ 7 ∧ refNum (a : EReal) w = (val n : EReal) ∧ (a = 0 → n = 0)
      ∧ magByte (((w >>> 10) - BitVec.ofNat 32 (4194304 * 254 + ⌈4194304 * pos a⌉.toNat)).sshiftRight 22 |>.setWidth 8) = BitVec.ofNat 8 n := by
  have hb := pos_bounds a h0 h6
  obtain ⟨k, hk⟩ : ∃ k : ℕ, (k : ℤ) = ⌊pos a⌋ := ⟨⌊pos a⌋.toNat, Int.toNat_of_nonneg (Int.floor_nonneg.2 hb.1)⟩
  have hkr : (k : ℝ) = ((⌊pos a⌋ : ℤ) : ℝ) := by rw [← hk]; simp
  have k1 : (k : ℝ) ≤ pos a := by rw [hkr]; exact Int.floor_le _
  have k2 : pos a < k + 1 := by rw [hkr]; exact Int.lt_floor_add_one _
  have k7 : k ≤ 7 := by have : (k : ℝ) ≤ 7 := by linarith
                        exact_mod_cast this
  set f := pos a - k with hf
  have f0' : 0 ≤ f := by linarith
  have f1' : f < 1 := by linarith
  set D := ⌈4194304 * f⌉.toNat with hD
  have hD0 : 0 ≤ ⌈4194304 * f⌉ := Int.ceil_nonneg (by linarith)
  have hD1 : ⌈4194304 * f⌉ ≤ 4194304 := Int.ceil_le.2 (by push_cast; linarith)
  have hC : ⌈4194304 * pos a⌉.toNat = 4194304 * k + D := by
    have : ⌈4194304 * pos a⌉ = ⌈4194304 * f⌉ + ((4194304 * k : ℕ) : ℤ) := by
      rw [← Int.ceil_add_natCast]; congr 1; push_cast; ring
    omega
  set U := (w >>> 10).toNat with hU
  have hU' : U < 4194304 := by
    rw [hU, BitVec.toNat_ushiftRight, Nat.shiftRight_eq_div_pow]; have := w.isLt; omega
  have hup : U < D ↔ (U : ℝ) * (1 / 4194304) < f := lt_ceil_iff U f f0'
  have hlast : k = 7 → f = 0 := by rintro rfl; push_cast at hf; linarith [hb.2]
  have hn7 : k + (if U < D then 1 else 0) ≤ 7 := by
    split
    · rename_i h
      by_contra h'
      have : k = 7 := by omega
      have := hlast this
      rw [hup, this] at h
      have : (0 : ℝ) ≤ U := Nat.cast_nonneg _
      linarith
    · omega
  refine ⟨k + if U < D then 1 else 0, hn7, ?_, ?_, ?_⟩
  · unfold refNum
    rw [← hU]
    simp only [show ((2 : EReal)) = ((2 : ℝ) : EReal) from rfl, show ((4 : EReal)) = ((4 : ℝ) : EReal) from rfl, EReal.coe_lt_coe_iff, ← EReal.coe_mul, ← EReal.coe_sub, ← EReal.coe_add, Ideal.liftRound_coe]
    by_cases hA : a < 2
    · have hp : pos a = 2 * a := if_pos hA
      simp only [if_pos hA]
      rw [div_coe _ _ (by norm_num), ← EReal.coe_sub, ← EReal.coe_mul]
      simp only [EReal.coe_lt_coe_iff]
      have e1 : ((⌊a * 2⌋ : ℤ) : ℝ) = k := by rw [hkr, hp, mul_comm]
      rw [e1]
      have e2 : ((a - k * (1 / 2)) * (1 / (1 / 2)) : ℝ) = f := by rw [hf, hp]; ring
      rw [e2]
      have k4 : k ≤ 3 := by
        have : (k : ℝ) < 4 := by linarith
        have : k < 4 := by exact_mod_cast this
        omega
      by_cases hu : U < D
      · rw [if_pos (hup.1 hu), if_pos hu, ← EReal.coe_add]
        unfold val; rw [if_pos (by omega)]; refine congrArg Real.toEReal ?_; push_cast; ring
      · rw [if_neg (mt hup.2 hu), if_neg hu]
        unfold val; rw [if_pos (by omega)]; refine congrArg Real.toEReal ?_; push_cast; ring
    · simp only [if_neg hA]
      by_cases hB : a < 4
      · have hp : pos a = a + 2 := by unfold pos; rw [if_neg hA, if_pos hB]
        simp only [if_pos hB]
        rw [div_coe _ _ (by norm_num), ← EReal.coe_sub, ← EReal.coe_mul]
        simp only [EReal.coe_lt_coe_iff]
        have e1 : ((⌊a⌋ : ℤ) : ℝ) = k - 2 := by
          rw [hkr, hp, show (a + 2 : ℝ) = a + ((2 : ℤ) : ℝ) by norm_num, Int.floor_add_intCast]; push_cast; ring
        rw [e1]
        have e2 : ((a - (k - 2)) * (1 / 1) : ℝ) = f := by rw [hf, hp]; ring
        rw [e2]
        have k6 : k < 6 := by
          have : (k : ℝ) < 6 := by linarith
          exact_mod_cast this
        have k4 : 4 ≤ k := by
          have : (3 : ℝ) < k := by linarith
          have : 3 < k := by exact_mod_cast this
          omega
        by_cases hu : U < D
        · rw [if_pos (hup.1 hu), if_pos hu, ← EReal.coe_add]
          unfold val; rw [if_neg (by omega), if_pos (by omega)]; refine congrArg Real.toEReal ?_; push_cast; ring
        · rw [if_neg (mt hup.2 hu), if_neg hu]
          unfold val
          refine congrArg Real.toEReal ?_
          interval_cases k <;> norm_num
      · have hp : pos a = a / 2 + 4 := by unfold pos; rw [if_neg hA, if_neg hB]
        simp only [if_neg hB]
        rw [div_coe _ _ (by norm_num), ← EReal.coe_sub, ← EReal.coe_mul]
        simp only [EReal.coe_lt_coe_iff]
        have e1 : ((⌊(a - 4) * (1 / 2)⌋ : ℤ) : ℝ) = k - 6 := by
          rw [hkr, hp, show (a / 2 + 4 : ℝ) = (a - 4) * (1 / 2) + ((6 : ℤ) : ℝ) by push_cast; ring, Int.floor_add_intCast]; push_cast; ring
        rw [e1]
        have e2 : ((a - (4 + 2 * (k - 6))) * (1 / 2) : ℝ) = f := by rw [hf, hp]; ring
        rw [e2]
        have k6 : 6 ≤ k := by
          have : (5 : ℝ) < k := by linarith
          have : 5 < k := by exact_mod_cast this
          omega
        by_cases hu : U < D
        · rw [if_pos (hup.1 hu), if_pos hu, ← EReal.coe_add]
          rw [if_pos hu] at hn7
          have : k = 6 := by omega
          subst this
          unfold val
          refine congrArg Real.toEReal ?_
          norm_num
        · rw [if_neg (mt hup.2 hu), if_neg hu]
          unfold val
          refine congrArg Real.toEReal ?_
          interval_cases k <;> norm_num
  · intro ha
    have hp : pos a = 0 := by unfold pos; rw [if_pos (by linarith), ha]; ring
    have k0 : k = 0 := by
      have : (k : ℝ) ≤ 0 := by linarith
      exact_mod_cast le_antisymm (by exact_mod_cast this) (Nat.zero_le k)
    have : ¬ U < D := by
      rw [hup, hf, hp, k0]
      have : (0 : ℝ) ≤ U := Nat.cast_nonneg _
      push_cast; linarith
    rw [if_neg this, k0]
  · rw [hC, show (w >>> 10) = BitVec.ofNat 32 U from by rw [hU, BitVec.ofNat_toNat, BitVec.setWidth_eq], mag_word U k D hU' k7 (by omega), Nat.mod_eq_of_lt (by omega)]

/-! ## The scaled value -/

/-- The scaled value of the reference. -/
def refVal (g x s : EReal) : EReal := if 0 < s then Ideal.div x (s * g) else 0
/-- The clipped block scale. -/
def refScale (g x : EReal) : EReal := min (448 : ℝ) (max 0 (Ideal.div x ((6 : ℝ) * g)))

theorem refScale_bounds (g x : EReal) : 0 ≤ refScale g x ∧ refScale g x ≤ (448 : ℝ) :=
  ⟨le_min (by exact_mod_cast (by norm_num : (0 : ℝ) ≤ 448)) (le_max_left _ _), min_le_left _ _⟩

theorem rOf_eq (g s : EReal) : rOf g s = if 0 < s then Ideal.div (1 : ℝ) (s * g) else 0 := by
  show Scalar.select (Ideal.cmp .ogt _ _) (Ideal.div _ (Scalar.select (Ideal.cmp .ogt _ _) _ _)) _ = _
  simp only [sel_gt, Scalar.ofBits, broadcast, FloatOps.scalar]
  rw [f0, f1, EReal.coe_zero]
  by_cases h : 0 < s
  · simp only [if_pos h]; rfl
  · simp only [if_neg h]

theorem mul_rOf (g x s : EReal) (hg : 0 < g) : x * rOf g s = refVal g x s := by
  rw [rOf_eq]; unfold refVal
  by_cases h : 0 < s
  · have he : s * g ≠ 0 := (EReal.mul_pos h hg).ne'
    rw [if_pos h, if_pos h]; unfold Ideal.div
    rw [if_neg he, if_neg he, EReal.coe_one, one_mul]
  · rw [if_neg h, if_neg h, mul_zero]

theorem rOf_nonneg (g s : EReal) (hg : 0 < g) : 0 ≤ rOf g s := by
  rw [rOf_eq]
  by_cases h : 0 < s
  · have he : 0 < s * g := EReal.mul_pos h hg
    rw [if_pos h]; unfold Ideal.div
    rw [if_neg he.ne', EReal.coe_one, one_mul]
    exact EReal.inv_nonneg_of_nonneg he.le
  · rw [if_neg h]

/-- A scaled value is negative exactly when it is not zero and its element is negative. -/
theorem refVal_neg (g x s : EReal) (hg : 0 < g) (hv : refVal g x s ≠ 0) : refVal g x s < 0 ↔ x < 0 := by
  rw [← mul_rOf g x s hg] at hv ⊢
  have hr : 0 < rOf g s := lt_of_le_of_ne (rOf_nonneg g s hg) fun h => hv (by rw [← h, mul_zero])
  constructor
  · intro h
    by_contra h'
    exact absurd h (not_lt.2 (mul_nonneg (not_lt.1 h') hr.le))
  · intro h
    exact EReal.mul_neg_iff.2 (Or.inr ⟨h, hr⟩)

/-- The kernel's clipped position is the reference's clipped magnitude's. -/
theorem clip_eq (v : EReal) : ∃ a : ℝ, 0 ≤ a ∧ a ≤ 6 ∧ min (max v (-v)) (6 : ℝ) = (a : EReal)
    ∧ min (max (max v (-v) + (1 : ℝ)) (max v (-v) + max v (-v))) (12 : ℝ) = ((min (max (a + 1) (2 * a)) 12 : ℝ) : EReal)
    ∧ (v = 0 → a = 0) := by
  have h0 : 0 ≤ max v (-v) := by
    rcases le_total 0 v with h | h
    · exact le_max_of_le_left h
    · exact le_max_of_le_right (EReal.neg_nonneg.2 h)
  have h0' : v = 0 → max v (-v) = 0 := by rintro rfl; simp
  generalize max v (-v) = t at h0 h0'
  induction t using EReal.rec with
  | bot => simp at h0
  | top =>
    refine ⟨6, by norm_num, le_rfl, by simp, ?_, fun h => absurd (h0' h) (by simp)⟩
    rw [show ((min (max (6 + 1) (2 * 6)) 12 : ℝ)) = 12 by norm_num]
    simp
  | coe t =>
    have ht : 0 ≤ t := by exact_mod_cast h0
    refine ⟨min t 6, le_min ht (by norm_num), min_le_right _ _, ?_, ?_, fun h => ?_⟩
    · exact (EReal.coe_strictMono.monotone.map_min).symm
    · rw [← EReal.coe_add, ← EReal.coe_add, ← EReal.coe_strictMono.monotone.map_max, ← EReal.coe_strictMono.monotone.map_min]
      refine congrArg Real.toEReal ?_
      rcases le_total t 6 with h | h
      · rw [min_eq_left h, two_mul]
      · rw [min_eq_right h, min_eq_right (le_max_of_le_right (by linarith)), min_eq_right (by norm_num)]
    · have : t = 0 := by exact_mod_cast h0' h
      rw [this]; norm_num

/-- One element: the kernel's magnitude bits are a code whose number is the reference's. -/
theorem element (g x s : EReal) (hg : 0 < g) (w : BitVec 32) :
    ∃ n : ℕ, n ≤ 7 ∧ refNum (min (max (refVal g x s) (-refVal g x s)) (6 : ℝ)) w = (val n : EReal)
      ∧ magByte (nOf x (rOf g s) w) = BitVec.ofNat 8 n ∧ (0 < n → (refVal g x s < 0 ↔ x < 0)) := by
  obtain ⟨a, h0, h6, hmin, hy, hz⟩ := clip_eq (refVal g x s)
  obtain ⟨n, hn, hq, hn0, hm⟩ := choice a h0 h6 w
  refine ⟨n, hn, by rw [hmin]; exact hq, ?_, fun hp => refVal_neg g x s hg fun h => by have := hn0 (hz h); omega⟩
  rw [← hm]
  refine congrArg magByte ?_
  have e : nOf x (rOf g s) w = (((IntOp.subi (IntOp.shrui .vector w 10#32)
      (bitsOf (min (max (max (x * rOf g s) (-(x * rOf g s)) + Ideal.ofBits .f32 0x3F800000#32) (max (x * rOf g s) (-(x * rOf g s)) + max (x * rOf g s) (-(x * rOf g s)))) (Ideal.ofBits .f32 0x41400000#32)))).sshiftRight 22).setWidth 8) := rfl
  rw [e, mul_rOf g x s hg, f1, f12, hy, bits_eq a h0 h6]
  rfl

theorem sgOf_eq (x : EReal) : sgOf x = if x < 0 then 128#8 else 0#8 := by
  show (Scalar.select (Ideal.cmp .olt x (Ideal.ofBits .f32 0x00000000#32)) (4294967168#32) (0#32)).setWidth 8 = _
  rw [sel_lt, f0, EReal.coe_zero]; split <;> rfl

end Cert.KernelIdeal.Gen
end
-- ==== Proof.Decode.lean ====
/- The four-bit codes over the extended reals: the number each stands for, by the kernel's byte and by the reference's fields. -/
module
public import proofs.«01_k».proof.Proof.Elements

@[expose] public section

set_option maxRecDepth 16384

noncomputable section

namespace Cert.KernelIdeal.Gen

open Idealize.ShloMosaic Idealize.ShloMosaic.ValueIdx

/-- The number a four-bit code stands for. -/
def valS (n : ℕ) : ℝ := if n < 8 then val n else -val (n - 8)

/-- The byte the kernel reads as an eight-bit float for a code. -/
def f8N (n : ℕ) : BitVec 8 := f8Byte (BitVec.ofNat 8 (n % 8)) (if n < 8 then 0#8 else 128#8)

theorem e4m3_of (b : BitVec 8) (neg : Bool) (ex fr : ℕ) (h1 : (b.extractLsb' 7 1 == 1#1) = neg)
    (h2 : (b.extractLsb' 3 4).toNat = ex) (h3 : (b.extractLsb' 0 3).toNat = fr) (h4 : ex ≠ 15) :
    Ideal.ofBits .fp8e4m3 b = (((if neg then -1 else 1) * (if ex = 0 then (fr : ℝ) * (2 : ℝ) ^ (-9 : Int) else (8 + fr : ℕ) * (2 : ℝ) ^ ((ex : Int) - 10)) : ℝ) : EReal) := by
  show Ideal.e4m3fn b = _
  subst h1 h2 h3
  unfold Ideal.e4m3fn
  simp only [h4, false_and, if_false]
  split
  · next h => simp only [if_pos h, mul_assoc]
  · next h => simp only [if_neg h, mul_assoc]

/-- The byte's number is a sixty-fourth of the code's. -/
theorem f8N_val (n : ℕ) (h : n < 16) : Ideal.ofBits .fp8e4m3 (f8N n) = ((valS n / 64 : ℝ) : EReal) := by
  interval_cases n
  · exact (e4m3_of (f8N 0) false 0 0 (by decide) (by decide) (by decide) (by decide)).trans (congrArg Real.toEReal (by norm_num [valS, val]))
  · exact (e4m3_of (f8N 1) false 0 4 (by decide) (by decide) (by decide) (by decide)).trans (congrArg Real.toEReal (by norm_num [valS, val]))
  · exact (e4m3_of (f8N 2) false 1 0 (by decide) (by decide) (by decide) (by decide)).trans (congrArg Real.toEReal (by norm_num [valS, val]))
  · exact (e4m3_of (f8N 3) false 1 4 (by decide) (by decide) (by decide) (by decide)).trans (congrArg Real.toEReal (by norm_num [valS, val]))
  · exact (e4m3_of (f8N 4) false 2 0 (by decide) (by decide) (by decide) (by decide)).trans (congrArg Real.toEReal (by norm_num [valS, val]))
  · exact (e4m3_of (f8N 5) false 2 4 (by decide) (by decide) (by decide) (by decide)).trans (congrArg Real.toEReal (by norm_num [valS, val]))
  · exact (e4m3_of (f8N 6) false 3 0 (by decide) (by decide) (by decide) (by decide)).trans (congrArg Real.toEReal (by norm_num [valS, val]))
  · exact (e4m3_of (f8N 7) false 3 4 (by decide) (by decide) (by decide) (by decide)).trans (congrArg Real.toEReal (by norm_num [valS, val]))
  · exact (e4m3_of (f8N 8) true 0 0 (by decide) (by decide) (by decide) (by decide)).trans (congrArg Real.toEReal (by norm_num [valS, val]))
  · exact (e4m3_of (f8N 9) true 0 4 (by decide) (by decide) (by decide) (by decide)).trans (congrArg Real.toEReal (by norm_num [valS, val]))
  · exact (e4m3_of (f8N 10) true 1 0 (by decide) (by decide) (by decide) (by decide)).trans (congrArg Real.toEReal (by norm_num [valS, val]))
  · exact (e4m3_of (f8N 11) true 1 4 (by decide) (by decide) (by decide) (by decide)).trans (congrArg Real.toEReal (by norm_num [valS, val]))
  · exact (e4m3_of (f8N 12) true 2 0 (by decide) (by decide) (by decide) (by decide)).trans (congrArg Real.toEReal (by norm_num [valS, val]))
  · exact (e4m3_of (f8N 13) true 2 4 (by decide) (by decide) (by decide) (by decide)).trans (congrArg Real.toEReal (by norm_num [valS, val]))
  · exact (e4m3_of (f8N 14) true 3 0 (by decide) (by decide) (by decide) (by decide)).trans (congrArg Real.toEReal (by norm_num [valS, val]))
  · exact (e4m3_of (f8N 15) true 3 4 (by decide) (by decide) (by decide) (by decide)).trans (congrArg Real.toEReal (by norm_num [valS, val]))

theorem loByte_eq : ∀ b : BitVec 8, loByte b = f8N (b.toNat % 16) := by decide +kernel
theorem hiByte_eq : ∀ b : BitVec 8, hiByte b = f8N (b.toNat / 16) := by decide +kernel

/-- A sign-magnitude code byte. -/
theorem code_eq (n : ℕ) (hn : n ≤ 7) (sg : BitVec 8) (hs : sg = 0#8 ∨ sg = 128#8) :
    codeByte (BitVec.ofNat 8 n) sg = BitVec.ofNat 8 (n + if sg = 128#8 ∧ 0 < n then 8 else 0) := by
  rcases hs with rfl | rfl <;> interval_cases n <;> decide

theorem f8_eq (n : ℕ) (hn : n ≤ 7) (sg : BitVec 8) (hs : sg = 0#8 ∨ sg = 128#8) :
    Ideal.ofBits .fp8e4m3 (f8Byte (BitVec.ofNat 8 n) sg) = ((valS (n + if sg = 128#8 ∧ 0 < n then 8 else 0) / 64 : ℝ) : EReal) := by
  rcases hs with rfl | rfl
  · have : f8Byte (BitVec.ofNat 8 n) 0#8 = f8N n := by interval_cases n <;> decide
    rw [this, f8N_val _ (by omega)]; simp
  · by_cases h0 : n = 0
    · subst h0
      have e := f8N_val 8 (by norm_num)
      have : f8Byte (BitVec.ofNat 8 0) 128#8 = f8N 8 := by decide
      rw [this, e]
      refine congrArg Real.toEReal ?_
      simp [valS, val]
    · have : f8Byte (BitVec.ofNat 8 n) 128#8 = f8N (n + 8) := by interval_cases n <;> first | (exact absurd rfl h0) | decide
      rw [this, f8N_val _ (by omega)]; simp only [true_and]; simp only [if_pos (Nat.pos_of_ne_zero h0)]

/-- The reference's decoding of a code word. -/
def refDec (c : BitVec 32) : EReal :=
  let m : EReal := (((c &&& 1#32).toInt : ℝ) : EReal)
  let e := (c.sshiftRight' 1#32) &&& 3#32
  let mag := if e = 0#32 then (1 / 2 : ℝ) * m else ((1 : ℝ) + (1 / 2 : ℝ) * m) * (if e = 1#32 then ((1 : ℝ) : EReal) else if e = 2#32 then (2 : ℝ) else (4 : ℝ))
  if (c.sshiftRight' 3#32) &&& 1#32 = 1#32 then (0 : ℝ) - mag else mag

theorem refDec_eq (n : ℕ) (h : n < 16) : refDec (BitVec.ofNat 32 n) = (valS n : EReal) := by
  unfold refDec
  have hm : ∀ k : ℤ, (((k : ℝ) : EReal)) = ((k : ℝ) : EReal) := fun _ => rfl
  interval_cases n <;>
    simp [← EReal.coe_mul, ← EReal.coe_add, ← EReal.coe_sub, valS, val] <;> (first | (norm_num; done) | (rw [← EReal.coe_neg]; refine congrArg Real.toEReal ?_; norm_num; done) | (rw [← EReal.coe_one, ← EReal.coe_add]; refine congrArg Real.toEReal ?_; norm_num; done) | (rw [← EReal.coe_one, ← EReal.coe_add, ← EReal.coe_mul]; refine congrArg Real.toEReal ?_; norm_num; done) | (rw [← EReal.coe_one, ← EReal.coe_add, ← EReal.coe_mul, ← EReal.coe_neg]; refine congrArg Real.toEReal ?_; norm_num; done) | (refine congrArg Real.toEReal ?_; norm_num; done))

/-- The reference's code word for a scaled value `v` and number `q`. -/
def refCode1 (v q : EReal) : BitVec 32 :=
  (Ideal.fptosi 32 (if q < (2 : ℝ) then q * (2 : ℝ) else if q < (4 : ℝ) then q + (2 : ℝ) else if q = (4 : ℝ) then ((6 : ℝ) : EReal) else (7 : ℝ)))
    ||| (if v < 0 ∧ 0 < q then 8#32 else 0#32)

theorem fptosi_nat (n : ℕ) (h : n ≤ 7) : Ideal.fptosi 32 (((n : ℝ)) : EReal) = BitVec.ofNat 32 n := by
  show BitVec.ofInt 32 (max _ (min _ (if (0 : ℝ) ≤ (n : ℝ) then ⌊(n : ℝ)⌋ else _))) = _
  rw [if_pos (Nat.cast_nonneg _), Int.floor_natCast]
  have e : max (-((2 ^ (32 - 1) : ℕ) : ℤ)) (min (((2 ^ (32 - 1) : ℕ) : ℤ) - 1) (n : ℤ)) = (n : ℤ) := by norm_num; omega
  rw [e, BitVec.ofInt_natCast]

theorem refCode1_eq (v : EReal) (n : ℕ) (h : n ≤ 7) :
    refCode1 v (val n : EReal) = BitVec.ofNat 32 (n + if v < 0 ∧ 0 < n then 8 else 0) := by
  unfold refCode1
  have e : (if (val n : EReal) < (2 : ℝ) then (val n : EReal) * (2 : ℝ) else if (val n : EReal) < (4 : ℝ) then (val n : EReal) + (2 : ℝ) else if (val n : EReal) = (4 : ℝ) then ((6 : ℝ) : EReal) else (7 : ℝ)) = (((n : ℝ)) : EReal) := by
    simp only [← EReal.coe_mul, ← EReal.coe_add, EReal.coe_lt_coe_iff, EReal.coe_eq_coe_iff]
    interval_cases n <;> simp only [val] <;> norm_num
  have e2 : (0 : EReal) < (val n : EReal) ↔ 0 < n := by
    rw [← EReal.coe_zero, EReal.coe_lt_coe_iff]
    interval_cases n <;> simp only [val] <;> norm_num
  rw [e, fptosi_nat n h]
  simp only [e2]
  by_cases hv : v < 0 <;> interval_cases n <;> simp [hv]

end Cert.KernelIdeal.Gen
end
-- ==== Proof.ReferenceElements.lean ====
/- The reference's results element by element: the scales, the code words, the packed bytes, the dequantised values and weights, the product. -/
module
public import proofs.«01_k».proof.Proof.ReferenceValues
public import proofs.«01_k».proof.Proof.Decode
public import Idealize.ShloMosaic.Lib.MatmulPlain
public import Idealize.ShloMosaic.Lib.Pipeline.Value

@[expose] public section

set_option maxRecDepth 16384

noncomputable section

namespace Cert.ReferenceIdeal.Gen

open Idealize.ShloMosaic Idealize.ShloMosaic.ValueIdx
open Cert.KernelIdeal.Gen (refNum refVal refScale refCode1 refDec sel_lt sel_gt sel_eq f0 f1 f2 f4 f6 f7 f448 fhalf fm22)

/-- A choice on the equality of two words. -/
theorem selI {α : Type} {w : Nat} (x y : BitVec w) (a b : α) : Scalar.select (IntOp.cmpi .eq x y) a b = if x = y then a else b := by
  unfold Scalar.select IntOp.cmpi
  by_cases h : x = y
  · simp [h]
  · rw [if_neg h]
    have hb : (x == y) = false := beq_eq_false_iff_ne.2 h
    simp [hb]

/-! ## Layout -/

/-- An array with one column to a block, spread over the blocks' sixteen columns. -/
theorem spread_at {n0 n1 m : Nat} (h0 : n0 ≠ 1) (h1 : n1 ≠ 1) (hm : m = n1 * 16) (x : (⟨2, ![n0, n1]⟩ : Shape).Idx → EReal)
    (ha : (⟨2, ![n0, n1]⟩ : Shape).ShapeCasts ⟨3, ![n0, n1, 1]⟩) (hb : (⟨3, ![n0, n1, 1]⟩ : Shape).Broadcasts ⟨3, ![n0, n1, 16]⟩)
    (hc : (⟨3, ![n0, n1, 16]⟩ : Shape).ShapeCasts ⟨2, ![n0, m]⟩) (r : Fin n0) (c : Fin m) :
    shapeCast ⟨2, ![n0, m]⟩ (broadcastTo ⟨3, ![n0, n1, 16]⟩ (shapeCast ⟨3, ![n0, n1, 1]⟩ x ha) hb) hc (ix2 r c)
      = x (ix2 r ⟨c.val / 16, by have := c.isLt; omega⟩) := by
  have hc' := c.isLt
  refine (shapeCast_apply _ _ (ix2 r c) (ix3 r ⟨c.val / 16, by omega⟩ ⟨c.val % 16, by omega⟩) ?_).trans
    ((broadcastTo_apply _ _ _ (ix3 r ⟨c.val / 16, by omega⟩ (0 : Fin 1)) ?_).trans (shapeCast_apply _ _ _ (ix2 r ⟨c.val / 16, by omega⟩) ?_))
  · rw [Shape.rowMajor_val_three, Shape.rowMajor_val_two]
    show (r.val * n1 + c.val / 16) * 16 + c.val % 16 = r.val * m + c.val
    have e : r.val * m = r.val * n1 * 16 := by rw [hm, Nat.mul_assoc]
    omega
  · intro a
    fin_cases a
    · show r.val = if n0 = 1 then 0 else _
      rw [if_neg h0]; rfl
    · show c.val / 16 = if n1 = 1 then 0 else _
      rw [if_neg h1]; rfl
    · rfl
  · rw [Shape.rowMajor_val_three, Shape.rowMajor_val_two]
    show r.val * n1 + c.val / 16 = (r.val * n1 + c.val / 16) * 1 + 0
    omega

/-- The even (`o = 0`) or odd (`o = 1`) columns of an array. -/
theorem half_at {α : Type} {n0 n1 m : Nat} (hm : m = n1 * 2) (o : Nat) (ho : o < 2) (x : (⟨2, ![n0, m]⟩ : Shape).Idx → α)
    (ha : (⟨2, ![n0, m]⟩ : Shape).ShapeCasts ⟨3, ![n0, n1, 2]⟩) (hb : (⟨3, ![n0, n1, 2]⟩ : Shape).Slices ![0, 0, o] ⟨3, ![n0, n1, 1]⟩)
    (hc : (⟨3, ![n0, n1, 1]⟩ : Shape).ShapeCasts ⟨2, ![n0, n1]⟩) (r : Fin n0) (c : Fin n1) :
    shapeCast ⟨2, ![n0, n1]⟩ (extractStridedSlice ⟨3, ![n0, n1, 1]⟩ ![0, 0, o] (shapeCast ⟨3, ![n0, n1, 2]⟩ x ha) hb) hc (ix2 r c)
      = x (ix2 r ⟨2 * c.val + o, by have := c.isLt; omega⟩) := by
  have hc' := c.isLt
  refine (shapeCast_apply _ _ (ix2 r c) (ix3 r c (0 : Fin 1)) ?_).trans
    ((extractStridedSlice_apply _ _ _ _ (ix3 r c (⟨o, ho⟩ : Fin 2)) ?_).trans (shapeCast_apply _ _ _ (ix2 r ⟨2 * c.val + o, by omega⟩) ?_))
  · rw [Shape.rowMajor_val_three, Shape.rowMajor_val_two]
    show (r.val * n1 + c.val) * 1 + 0 = r.val * n1 + c.val
    omega
  · intro a
    fin_cases a
    · show r.val = 0 + r.val; omega
    · show c.val = 0 + c.val; omega
    · show o = o + 0; omega
  · rw [Shape.rowMajor_val_three, Shape.rowMajor_val_two]
    show r.val * m + (2 * c.val + o) = (r.val * n1 + c.val) * 2 + o
    have e : r.val * m = r.val * n1 * 2 := by rw [hm, Nat.mul_assoc]
    omega

/-- Two arrays laid out in turn, column by column. -/
theorem weave_at {α : Type} {n0 n1 m : Nat} (hm : m = n1 * 2) (x y : (⟨2, ![n0, n1]⟩ : Shape).Idx → α)
    (ha : (⟨2, ![n0, n1]⟩ : Shape).ShapeCasts ⟨3, ![n0, n1, 1]⟩)
    (hb : Shape.Concatenates [⟨3, ![n0, n1, 1]⟩, ⟨3, ![n0, n1, 1]⟩] (⟨3, ![n0, n1, 2]⟩ : Shape) (2 : Fin 3))
    (hc : (⟨3, ![n0, n1, 2]⟩ : Shape).ShapeCasts ⟨2, ![n0, m]⟩) (r : Fin n0) (c : Fin m) :
    shapeCast ⟨2, ![n0, m]⟩ (concatenate ⟨3, ![n0, n1, 2]⟩ (2 : Fin 3) [⟨⟨3, ![n0, n1, 1]⟩, shapeCast ⟨3, ![n0, n1, 1]⟩ x ha⟩, ⟨⟨3, ![n0, n1, 1]⟩, shapeCast ⟨3, ![n0, n1, 1]⟩ y ha⟩] hb) hc (ix2 r c)
      = (if c.val % 2 = 0 then x else y) (ix2 r ⟨c.val / 2, by have := c.isLt; omega⟩) := by
  have hc' := c.isLt
  refine (shapeCast_apply _ _ (ix2 r c) (ix3 r (⟨c.val / 2, by omega⟩ : Fin n1) (⟨c.val % 2, by omega⟩ : Fin 2)) ?_).trans ?_
  · rw [Shape.rowMajor_val_three, Shape.rowMajor_val_two]
    show (r.val * n1 + c.val / 2) * 2 + c.val % 2 = r.val * m + c.val
    have e : r.val * m = r.val * n1 * 2 := by rw [hm, Nat.mul_assoc]
    omega
  · by_cases h : c.val % 2 = 0
    · rw [if_pos h]
      refine (concatenate_pair_apply_left (t := ⟨3, ![n0, n1, 2]⟩) (2 : Fin 3) _ _ hb _ rfl (ix3 r (⟨c.val / 2, by omega⟩ : Fin n1) (0 : Fin 1)) ?_).trans (shapeCast_apply _ _ _ (ix2 r (⟨c.val / 2, by omega⟩ : Fin n1)) ?_)
      · intro b; fin_cases b
        · rfl
        · rfl
        · exact h.symm
      · rw [Shape.rowMajor_val_three, Shape.rowMajor_val_two]
        show r.val * n1 + c.val / 2 = (r.val * n1 + c.val / 2) * 1 + 0
        omega
    · rw [if_neg h]
      refine (concatenate_pair_apply_right (t := ⟨3, ![n0, n1, 2]⟩) (2 : Fin 3) _ _ hb _ rfl rfl (ix3 r (⟨c.val / 2, by omega⟩ : Fin n1) (0 : Fin 1)) ?_ ?_).trans (shapeCast_apply _ _ _ (ix2 r (⟨c.val / 2, by omega⟩ : Fin n1)) ?_)
      · intro b hb; fin_cases b
        · rfl
        · rfl
        · exact absurd rfl hb
      · show 0 + 1 = c.val % 2
        omega
      · rw [Shape.rowMajor_val_three, Shape.rowMajor_val_two]
        show r.val * n1 + c.val / 2 = (r.val * n1 + c.val / 2) * 1 + 0
        omega

/-! ## Elements -/

section Pay
variable (g : EReal) (x1 : S2048x16384.Idx → EReal) (x2 : S2048x16384.Idx → BitVec 32) (x3 : S2048x1024.Idx → EReal)
  (x4 : S16384x1440.Idx → BitVec 8) (x5 : S16384x180.Idx → EReal)

/-- A block scale. -/
theorem pay1_at (i : S2048x1024.Idx) : k0_pay1 (F := Ideal) g x3 i = refScale g (x3 i) := by
  show min (Ideal.ofBits .f32 0x43E00000#32) (max (Ideal.ofBits .f32 0x00000000#32) (Ideal.div (x3 i) (Ideal.ofBits .f32 0x40C00000#32 * g))) = _
  rw [f448, f0, f6]; rfl

/-- A scaled value. -/
theorem pay2_at (r : Fin 2048) (c : Fin 16384) :
    k0_pay2 (F := Ideal) g x1 x3 (ix2 r c) = refVal g (x1 (ix2 r c)) (refScale g (x3 (ix2 r ⟨c.val / 16, by have := c.isLt; omega⟩))) := by
  have e := spread_at (n0 := 2048) (n1 := 1024) (m := 16384) (by norm_num) (by norm_num) rfl (k0_pay1 (F := Ideal) g x3)
    shapeCasts_S2048x1024_S2048x1024x1 broadcasts_S2048x1024x1_S2048x1024x16 shapeCasts_S2048x1024x16_S2048x16384 r c
  rw [pay1_at] at e
  have : ∀ s : EReal, Scalar.select (Ideal.cmp .ogt s (Ideal.ofBits .f32 0x00000000#32)) (Ideal.div (x1 (ix2 r c)) (Scalar.select (Ideal.cmp .ogt s (Ideal.ofBits .f32 0x00000000#32)) (s * g) (Ideal.ofBits .f32 0x3F800000#32))) (Ideal.ofBits .f32 0x00000000#32) = refVal g (x1 (ix2 r c)) s := by
    intro s
    simp only [sel_gt]
    rw [f0, EReal.coe_zero]
    unfold refVal
    by_cases h : 0 < s
    · simp only [if_pos h]
    · simp only [if_neg h]
  rw [← e, ← this]
  rfl

/-- The clipped magnitude of a scaled value. -/
theorem pay3_at (i : S2048x16384.Idx) :
    k0_pay3 (F := Ideal) g x1 x3 i = min (max (k0_pay2 (F := Ideal) g x1 x3 i) (-k0_pay2 (F := Ideal) g x1 x3 i)) (6 : ℝ) := by
  show min (max (k0_pay2 (F := Ideal) g x1 x3 i) (-k0_pay2 (F := Ideal) g x1 x3 i)) (Ideal.ofBits .f32 0x40C00000#32) = _
  rw [f6]

/-- The step of the numbers about a scaled value. -/
theorem pay4_at (i : S2048x16384.Idx) :
    k0_pay4 (F := Ideal) g x1 x3 i = if k0_pay3 (F := Ideal) g x1 x3 i < (2 : ℝ) then ((1 / 2 : ℝ) : EReal) else if k0_pay3 (F := Ideal) g x1 x3 i < (4 : ℝ) then (1 : ℝ) else (2 : ℝ) := by
  show Scalar.select (Ideal.cmp .olt (k0_pay3 (F := Ideal) g x1 x3 i) (Ideal.ofBits .f32 0x40000000#32)) (Ideal.ofBits .f32 0x3F000000#32)
    (Scalar.select (Ideal.cmp .olt (k0_pay3 (F := Ideal) g x1 x3 i) (Ideal.ofBits .f32 0x40800000#32)) (Ideal.ofBits .f32 0x3F800000#32) (Ideal.ofBits .f32 0x40000000#32)) = _
  simp only [sel_lt]
  rw [f2, f4, f1, fhalf]

/-- The number chosen for a clipped magnitude. -/
theorem pay5_num (v29 v38 : S2048x16384.Idx → EReal) (i : S2048x16384.Idx)
    (h : v38 i = if v29 i < (2 : ℝ) then ((1 / 2 : ℝ) : EReal) else if v29 i < (4 : ℝ) then (1 : ℝ) else (2 : ℝ)) :
    k0_pay5 (F := Ideal) v29 v38 x2 i = refNum (v29 i) (x2 i) := by
  have e : ∀ a s : EReal, ∀ w : BitVec 32, (s = if a < (2 : ℝ) then ((1 / 2 : ℝ) : EReal) else if a < (4 : ℝ) then (1 : ℝ) else (2 : ℝ)) →
      ∀ lo : EReal, lo = Scalar.select (Ideal.cmp .olt a (Ideal.ofBits .f32 0x40000000#32)) (Ideal.liftRound Int.floor (a * Ideal.ofBits .f32 0x40000000#32) * Ideal.ofBits .f32 0x3F000000#32)
        (Scalar.select (Ideal.cmp .olt a (Ideal.ofBits .f32 0x40800000#32)) (Ideal.liftRound Int.floor a)
          (Ideal.ofBits .f32 0x40800000#32 + Ideal.ofBits .f32 0x40000000#32 * Ideal.liftRound Int.floor ((a - Ideal.ofBits .f32 0x40800000#32) * Ideal.ofBits .f32 0x3F000000#32))) →
      Scalar.select (Ideal.cmp .olt ((((w >>> 10#32).toNat : ℝ) : EReal) * Ideal.ofBits .f32 0x34800000#32) ((a - lo) * Ideal.div (Ideal.ofBits .f32 0x3F800000#32) s)) (lo + s) lo = refNum a w := by
    intro a s w hs lo hlo
    simp only [sel_lt] at hlo ⊢
    rw [f2, f4, fhalf] at hlo
    rw [f1, fm22]
    subst hs hlo
    have c2 : (2 : EReal) = ((2 : ℝ) : EReal) := by first | rfl | norm_cast
    have c4 : (4 : EReal) = ((4 : ℝ) : EReal) := by first | rfl | norm_cast
    unfold refNum
    rw [c2, c4]
    dsimp only
    by_cases h2 : a < ((2 : ℝ) : EReal) <;> by_cases h4 : a < ((4 : ℝ) : EReal) <;> simp only [h2, h4, if_true, if_false] <;> rfl
  exact e (v29 i) (v38 i) (x2 i) h _ rfl

/-- The number an element's code stands for, without its sign. -/
theorem refQ_at (i : S2048x16384.Idx) :
    refQ g x1 x2 x3 i = refNum (min (max (k0_pay2 (F := Ideal) g x1 x3 i) (-k0_pay2 (F := Ideal) g x1 x3 i)) (6 : ℝ)) (x2 i) := by
  rw [← pay3_at]
  exact pay5_num x2 _ _ i (pay4_at g x1 x3 i)

/-- The code word out of the scaled value and the number. -/
theorem refCode_at (i : S2048x16384.Idx) :
    refCode g x1 x2 x3 i = refCode1 (k0_pay2 (F := Ideal) g x1 x3 i) (refQ g x1 x2 x3 i) := by
  have e : ∀ v q : EReal, IntOp.ori (Ideal.fptosi 32 (Scalar.select (Ideal.cmp .olt q (Ideal.ofBits .f32 0x40000000#32)) (q * Ideal.ofBits .f32 0x40000000#32)
        (Scalar.select (Ideal.cmp .olt q (Ideal.ofBits .f32 0x40800000#32)) (q + Ideal.ofBits .f32 0x40000000#32)
          (Scalar.select (Ideal.cmp .oeq q (Ideal.ofBits .f32 0x40800000#32)) (Ideal.ofBits .f32 0x40C00000#32) (Ideal.ofBits .f32 0x40E00000#32)))))
      (((IntOp.andi (Ideal.cmp .olt v (Ideal.ofBits .f32 0x00000000#32)) (Ideal.cmp .ogt q (Ideal.ofBits .f32 0x00000000#32))).setWidth 32) <<< 3#32) = refCode1 v q := by
    intro v q
    simp only [sel_lt, sel_eq]
    rw [f2, f4, f6, f7, f0, EReal.coe_zero]
    unfold refCode1 IntOp.ori IntOp.andi
    congr 1
    unfold Ideal.cmp
    by_cases h1 : v < 0 <;> by_cases h2 : 0 < q <;> simp [h1, h2]
  exact e _ _

/-- A packed byte out of two code words. -/
theorem refBytes_at (r : Fin 2048) (c : Fin 8192) :
    refBytes g x1 x2 x3 (ix2 r c) = (refCode g x1 x2 x3 (ix2 r ⟨2 * c.val + 0, by have := c.isLt; omega⟩) ||| (refCode g x1 x2 x3 (ix2 r ⟨2 * c.val + 1, by have := c.isLt; omega⟩) <<< 4#32)).setWidth 8 := by
  have e0 := half_at (n0 := 2048) (n1 := 8192) (m := 16384) rfl 0 (by norm_num) (refCode g x1 x2 x3) shapeCasts_S2048x16384_S2048x8192x2 slices_S2048x8192x2_o0_0_0_S2048x8192x1 shapeCasts_S2048x8192x1_S2048x8192 r c
  have e1 := half_at (n0 := 2048) (n1 := 8192) (m := 16384) rfl 1 (by norm_num) (refCode g x1 x2 x3) shapeCasts_S2048x16384_S2048x8192x2 slices_S2048x8192x2_o0_0_1_S2048x8192x1 shapeCasts_S2048x8192x1_S2048x8192 r c
  rw [← e0, ← e1]
  rfl

/-- The decoding of a code word, in the reference's operations. -/
theorem dec_eq (c : BitVec 32) :
    Scalar.select (IntOp.cmpi .eq (IntOp.andi (c.sshiftRight' 3#32) 1#32) 1#32)
      (Ideal.ofBits .f32 0x00000000#32 - Scalar.select (IntOp.cmpi .eq (IntOp.andi (c.sshiftRight' 1#32) 3#32) 0#32) (Ideal.ofBits .f32 0x3F000000#32 * (((IntOp.andi c 1#32).toInt : ℝ) : EReal)) ((Ideal.ofBits .f32 0x3F800000#32 + Ideal.ofBits .f32 0x3F000000#32 * (((IntOp.andi c 1#32).toInt : ℝ) : EReal)) * Scalar.select (IntOp.cmpi .eq (IntOp.andi (c.sshiftRight' 1#32) 3#32) 1#32) (Ideal.ofBits .f32 0x3F800000#32) (Scalar.select (IntOp.cmpi .eq (IntOp.andi (c.sshiftRight' 1#32) 3#32) 2#32) (Ideal.ofBits .f32 0x40000000#32) (Ideal.ofBits .f32 0x40800000#32))))
      (Scalar.select (IntOp.cmpi .eq (IntOp.andi (c.sshiftRight' 1#32) 3#32) 0#32) (Ideal.ofBits .f32 0x3F000000#32 * (((IntOp.andi c 1#32).toInt : ℝ) : EReal)) ((Ideal.ofBits .f32 0x3F800000#32 + Ideal.ofBits .f32 0x3F000000#32 * (((IntOp.andi c 1#32).toInt : ℝ) : EReal)) * Scalar.select (IntOp.cmpi .eq (IntOp.andi (c.sshiftRight' 1#32) 3#32) 1#32) (Ideal.ofBits .f32 0x3F800000#32) (Scalar.select (IntOp.cmpi .eq (IntOp.andi (c.sshiftRight' 1#32) 3#32) 2#32) (Ideal.ofBits .f32 0x40000000#32) (Ideal.ofBits .f32 0x40800000#32))))
      = refDec c := by
  simp only [selI]
  rw [f0, f1, f2, f4, fhalf]
  rfl

/-- A dequantised value: the code's number times the block's scale. -/
theorem refDy_at (r : Fin 2048) (c : Fin 16384) :
    refDy g x1 x2 x3 (ix2 r c) = refDec (refCode g x1 x2 x3 (ix2 r c)) * refScale g (x3 (ix2 r ⟨c.val / 16, by have := c.isLt; omega⟩)) := by
  have e := spread_at (n0 := 2048) (n1 := 1024) (m := 16384) (by norm_num) (by norm_num) rfl (k0_pay1 (F := Ideal) g x3)
    shapeCasts_S2048x1024_S2048x1024x1 broadcasts_S2048x1024x1_S2048x1024x16 shapeCasts_S2048x1024x16_S2048x16384 r c
  rw [pay1_at] at e
  rw [← e, ← dec_eq]
  rfl

/-- The code of a weight. -/
theorem pay18_at (r : Fin 16384) (c : Fin 2880) :
    k0_pay18 (F := Ideal) x4 (ix2 r c) = if c.val % 2 = 0 then (x4 (ix2 r ⟨c.val / 2, by have := c.isLt; omega⟩)).setWidth 32 &&& 15#32 else ((x4 (ix2 r ⟨c.val / 2, by have := c.isLt; omega⟩)).setWidth 32).sshiftRight' 4#32 := by
  refine (weave_at (n0 := 16384) (n1 := 1440) (m := 2880) rfl _ _ shapeCasts_S16384x1440_S16384x1440x1 concatenates_S16384x1440x1_S16384x1440x1_S16384x1440x2_d2 shapeCasts_S16384x1440x2_S16384x2880 r c).trans ?_
  split <;> rfl

/-- The dequantised weights. -/
def refWt : S16384x2880.Idx → EReal := fun y => refDec (k0_pay18 (F := Ideal) x4 y) *
  (shapeCast S16384x2880 (broadcastTo S16384x180x16 (shapeCast S16384x180x1 x5 shapeCasts_S16384x180_S16384x180x1) broadcasts_S16384x180x1_S16384x180x16) shapeCasts_S16384x180x16_S16384x2880 : S16384x2880.Idx → EReal) y

/-- A dequantised weight. -/
theorem refWt_at (r : Fin 16384) (c : Fin 2880) :
    refWt x4 x5 (ix2 r c) = refDec (k0_pay18 (F := Ideal) x4 (ix2 r c)) * x5 (ix2 r ⟨c.val / 16, by have := c.isLt; omega⟩) :=
  congrArg (_ * ·) (spread_at (n0 := 16384) (n1 := 180) (m := 2880) (by norm_num) (by norm_num) rfl x5 _ _ _ r c)

theorem dot_plain : dot_S2048x16384_S16384x2880_S2048x2880_1_0_0_1_n_n = DotDims.plain 2048 16384 2880 := rfl

/-- An element of the output. -/
theorem refOut_at (o : EReal) (r : Fin 2048) (c : Fin 2880) :
    refOut g x1 x2 x3 x4 x5 o (ix2 r c) = (∑ k : Fin 16384, refDy g x1 x2 x3 (ix2 r k) * refWt x4 x5 (ix2 k c)) * o := by
  have e : (fun y => refWt x4 x5 y) = fun y => (_ : EReal) * _ := funext fun y => congrArg (· * _) (dec_eq (k0_pay18 (F := Ideal) x4 y)).symm
  have h : refOut g x1 x2 x3 x4 x5 o (ix2 r c) = FloatOps.matmul (F := Ideal) (φ₁ := .bf16) (φ₂ := .bf16) dot_S2048x16384_S16384x2880_S2048x2880_1_0_0_1_n_n none (refDy g x1 x2 x3) (fun y => refWt x4 x5 y) (constant (F := Ideal) S2048x2880 .f32 0x00000000#32) (ix2 r c) * o := by
    rw [e]; rfl
  rw [h, dot_plain, Ideal.matmul_plain_apply]
  show (Ideal.ofBits .f32 0x00000000#32 + _) * o = _
  rw [f0, EReal.coe_zero, zero_add]
end Pay

end Cert.ReferenceIdeal.Gen
end
-- ==== Proof.Agree.lean ====
/- The kernel's parts, element by element, against the reference's. -/
module
public import proofs.«01_k».proof.Proof.KernelValues
public import proofs.«01_k».proof.Proof.ReferenceElements
public import Idealize.ShloMosaic.Lib.MatmulPlain

@[expose] public section

set_option maxRecDepth 16384

noncomputable section

namespace Cert.KernelIdeal.Gen

open Idealize.ShloMosaic Idealize.ShloMosaic.ValueIdx

/-- The code of an element, as the kernel and the reference arrive at it. -/
theorem code_pair (g x s : EReal) (hg : 0 < g) (w : BitVec 32) :
    ∃ N < 16, refCode1 (refVal g x s) (refNum (min (max (refVal g x s) (-refVal g x s)) (6 : ℝ)) w) = BitVec.ofNat 32 N ∧
      codeByte (magByte (nOf x (rOf g s) w)) (sgOf x) = BitVec.ofNat 8 N ∧
      Ideal.ofBits .fp8e4m3 (f8Byte (magByte (nOf x (rOf g s) w)) (sgOf x)) = ((valS N / 64 : ℝ) : EReal) := by
  obtain ⟨n, hn, h1, h2, h3⟩ := element g x s hg w
  have hs : sgOf x = 0#8 ∨ sgOf x = 128#8 := by rw [sgOf_eq]; split <;> simp
  have hx : sgOf x = 128#8 ↔ x < 0 := by rw [sgOf_eq]; split <;> simp_all
  have hN : (n + if refVal g x s < 0 ∧ 0 < n then 8 else 0) = n + if sgOf x = 128#8 ∧ 0 < n then 8 else 0 := by
    congr 1
    by_cases h0 : 0 < n
    · simp only [h0, and_true, h3 h0, hx]
    · simp only [h0, and_false]
  refine ⟨n + if sgOf x = 128#8 ∧ 0 < n then 8 else 0, by split <;> omega, ?_, ?_, ?_⟩
  · rw [h1, refCode1_eq _ n hn, hN]
  · rw [h2, code_eq n hn _ hs]
  · rw [h2, f8_eq n hn _ hs]

theorem f64' : Ideal.ofBits .f32 0x42800000#32 = ((64 : ℝ) : EReal) := f64

/-- Dividing by sixty-four and multiplying the other factor by sixty-four leaves the product. -/
theorem mul64 (v : ℝ) (s : EReal) : ((v / 64 : ℝ) : EReal) * (s * (64 : ℝ)) = (v : EReal) * s := by
  rw [mul_comm s, ← mul_assoc, ← EReal.coe_mul, div_mul_cancel₀ v (by norm_num)]

/-- A word's decoding, from the nibble. -/
theorem refDec_lo (b : BitVec 8) : refDec (b.setWidth 32 &&& 15#32) = (valS (b.toNat % 16) : EReal) := by
  have : ∀ b : BitVec 8, b.setWidth 32 &&& 15#32 = BitVec.ofNat 32 (b.toNat % 16) := by decide +kernel
  rw [this, refDec_eq _ (Nat.mod_lt _ (by norm_num))]
theorem refDec_hi (b : BitVec 8) : refDec ((b.setWidth 32).sshiftRight' 4#32) = (valS (b.toNat / 16) : EReal) := by
  have : ∀ b : BitVec 8, (b.setWidth 32).sshiftRight' 4#32 = BitVec.ofNat 32 (b.toNat / 16) := by decide +kernel
  rw [this, refDec_eq _ (by have := b.isLt; omega)]

/-- A weight out of its byte and scale, both ways. -/
theorem wt_lo (b : BitVec 8) (s : EReal) : Ideal.ofBits .fp8e4m3 (loByte b) * (s * (64 : ℝ)) = refDec (b.setWidth 32 &&& 15#32) * s := by
  rw [loByte_eq, f8N_val _ (Nat.mod_lt _ (by norm_num)), refDec_lo, mul64]
theorem wt_hi (b : BitVec 8) (s : EReal) : Ideal.ofBits .fp8e4m3 (hiByte b) * (s * (64 : ℝ)) = refDec ((b.setWidth 32).sshiftRight' 4#32) * s := by
  rw [hiByte_eq, f8N_val _ (by have := b.isLt; omega), refDec_hi, mul64]

/-- A byte packed from two codes. -/
theorem pack_eq (A B : Nat) (hA : A < 16) (hB : B < 16) :
    (BitVec.ofNat 8 A ||| (BitVec.ofNat 8 B <<< 4)) = (BitVec.ofNat 32 A ||| (BitVec.ofNat 32 B <<< 4#32)).setWidth 8 := by
  have : ∀ a b : Fin 16, (BitVec.ofNat 8 a.val ||| (BitVec.ofNat 8 b.val <<< 4)) = (BitVec.ofNat 32 a.val ||| (BitVec.ofNat 32 b.val <<< 4#32)).setWidth 8 := by decide +kernel
  exact this ⟨A, hA⟩ ⟨B, hB⟩

namespace Args
variable (a : Args)

/-- The element of the gradient at row `R`, column `C`. -/
def gX (R C : Nat) : EReal := rd a.a1 0 R C
/-- The random word of that element. -/
def gW (R C : Nat) : BitVec 32 := rd a.a2 0 R C
/-- The scale of that element's block. -/
def gS (R C : Nat) : EReal := refScale (a.a0 (ix2 0 0)) (rd a.a3 0 R (C / 16))

/-- A block scale of the kernel's. -/
theorem scales_at (k j : Nat) (y : S512x128.Idx) :
    a.scales k j y = refScale (a.a0 (ix2 0 0)) (rd a.a3 0 (512 * j + (y 0).val) (128 * (k / 2) + (y 1).val)) := by
  show min (Ideal.ofBits .f32 0x43E00000#32) (max (Ideal.ofBits .f32 0x00000000#32) (Ideal.div (rd a.a3 0 (512 * j + (y 0).val) (128 * (k / 2) + (y 1).val)) (Ideal.ofBits .f32 0x40C00000#32 * a.a0 (ix2 0 0)))) = _
  rw [f448, f0, f6]; rfl

/-- The scale the kernel reads for an element. -/
theorem rd_scales (k j r c : Nat) (hr : r < 512) (hc : c < 1024) :
    rd (a.scales k j) 0 r (64 * (k % 2) + c / 16) = a.gS (512 * j + r) (1024 * k + c) := by
  unfold rd
  rw [dif_pos ⟨hr, by omega⟩, scales_at]
  show refScale _ (rd a.a3 0 (512 * j + r) (128 * (k / 2) + (64 * (k % 2) + c / 16))) = _
  rw [show 128 * (k / 2) + (64 * (k % 2) + c / 16) = (1024 * k + c) / 16 from by omega]
  rfl

/-- The magnitude the kernel computes for an element. -/
theorem qMag_at (k j r c : Nat) (hr : r < 512) (hc : c < 1024) :
    qMag (64 * (k % 2)) (a.a0 (ix2 0 0)) (sub a.a1 0 (512 * j) (1024 * k) : S512x1024.Idx → EReal) (sub a.a2 0 (512 * j) (1024 * k) : S512x1024.Idx → BitVec 32) (a.scales k j) r c
      = magByte (nOf (a.gX (512 * j + r) (1024 * k + c)) (rOf (a.a0 (ix2 0 0)) (a.gS (512 * j + r) (1024 * k + c))) (a.gW (512 * j + r) (1024 * k + c))) := by
  unfold qMag
  rw [rd_scales a k j r c hr hc, rd_sub a.a1 0 (512 * j) (1024 * k) r c hr hc, rd_sub a.a2 0 (512 * j) (1024 * k) r c hr hc]
  rfl

/-- The code the kernel computes for an element. -/
theorem qCode_at (k j r c : Nat) (hr : r < 512) (hc : c < 1024) :
    qCode (64 * (k % 2)) (a.a0 (ix2 0 0)) (sub a.a1 0 (512 * j) (1024 * k) : S512x1024.Idx → EReal) (sub a.a2 0 (512 * j) (1024 * k) : S512x1024.Idx → BitVec 32) (a.scales k j) r c
      = codeByte (magByte (nOf (a.gX (512 * j + r) (1024 * k + c)) (rOf (a.a0 (ix2 0 0)) (a.gS (512 * j + r) (1024 * k + c))) (a.gW (512 * j + r) (1024 * k + c)))) (sgOf (a.gX (512 * j + r) (1024 * k + c))) := by
  unfold qCode
  rw [qMag_at a k j r c hr hc, rd_sub a.a1 0 (512 * j) (1024 * k) r c hr hc]
  rfl

/-- The value the kernel computes for an element. -/
theorem qDy_at (k j r c : Nat) (hr : r < 512) (hc : c < 1024) :
    qDy (64 * (k % 2)) (a.a0 (ix2 0 0)) (sub a.a1 0 (512 * j) (1024 * k) : S512x1024.Idx → EReal) (sub a.a2 0 (512 * j) (1024 * k) : S512x1024.Idx → BitVec 32) (a.scales k j) r c
      = Ideal.ofBits .fp8e4m3 (f8Byte (magByte (nOf (a.gX (512 * j + r) (1024 * k + c)) (rOf (a.a0 (ix2 0 0)) (a.gS (512 * j + r) (1024 * k + c))) (a.gW (512 * j + r) (1024 * k + c)))) (sgOf (a.gX (512 * j + r) (1024 * k + c))))
          * (a.gS (512 * j + r) (1024 * k + c) * (64 : ℝ)) := by
  unfold qDy s64Of
  rw [qMag_at a k j r c hr hc, rd_sub a.a1 0 (512 * j) (1024 * k) r c hr hc, rd_scales a k j r c hr hc, f64]
  rfl

open Cert.ReferenceIdeal.Gen (refCode refBytes refDy refOut refWt refCode_at refQ_at pay2_at refBytes_at refDy_at refWt_at refOut_at pay18_at pay1_at)

/-- The reference's code word of an element. -/
theorem refCode_eq (r : Fin 2048) (c : Fin 16384) :
    refCode (a.a0 (ix2 0 0)) a.a1 a.a2 a.a3 (ix2 r c) = refCode1 (refVal (a.a0 (ix2 0 0)) (a.gX r.val c.val) (a.gS r.val c.val))
      (refNum (min (max (refVal (a.a0 (ix2 0 0)) (a.gX r.val c.val) (a.gS r.val c.val)) (-refVal (a.a0 (ix2 0 0)) (a.gX r.val c.val) (a.gS r.val c.val))) (6 : ℝ)) (a.gW r.val c.val)) := by
  have hc := c.isLt
  have e3 : rd a.a3 0 r.val (c.val / 16) = a.a3 (ix2 r ⟨c.val / 16, by omega⟩) := rd_ix2 a.a3 0 r (⟨c.val / 16, by omega⟩ : Fin 1024)
  rw [refCode_at, refQ_at, pay2_at]
  unfold gX gS gW
  rw [e3, rd_ix2, rd_ix2]

/-- Kernel and reference give an element the same code and the same value. -/
theorem elt_agree (hg : 0 < a.a0 (ix2 0 0)) (k j r c : Nat) (hr : r < 512) (hc : c < 1024) (R : Fin 2048) (C : Fin 16384) (hR : R.val = 512 * j + r) (hC : C.val = 1024 * k + c) :
    (∃ N < 16, refCode (a.a0 (ix2 0 0)) a.a1 a.a2 a.a3 (ix2 R C) = BitVec.ofNat 32 N ∧
      qCode (64 * (k % 2)) (a.a0 (ix2 0 0)) (sub a.a1 0 (512 * j) (1024 * k) : S512x1024.Idx → EReal) (sub a.a2 0 (512 * j) (1024 * k) : S512x1024.Idx → BitVec 32) (a.scales k j) r c = BitVec.ofNat 8 N) ∧
    qDy (64 * (k % 2)) (a.a0 (ix2 0 0)) (sub a.a1 0 (512 * j) (1024 * k) : S512x1024.Idx → EReal) (sub a.a2 0 (512 * j) (1024 * k) : S512x1024.Idx → BitVec 32) (a.scales k j) r c
      = refDy (a.a0 (ix2 0 0)) a.a1 a.a2 a.a3 (ix2 R C) := by
  obtain ⟨N, hN, h1, h2, h3⟩ := code_pair (a.a0 (ix2 0 0)) (a.gX R.val C.val) (a.gS R.val C.val) hg (a.gW R.val C.val)
  rw [← refCode_eq a R C] at h1
  rw [hR, hC] at h2 h3
  refine ⟨⟨N, hN, h1, (qCode_at a k j r c hr hc).trans h2⟩, ?_⟩
  have hc' := C.isLt
  have e3 : rd a.a3 0 R.val (C.val / 16) = a.a3 (ix2 R ⟨C.val / 16, by omega⟩) := rd_ix2 a.a3 0 R (⟨C.val / 16, by omega⟩ : Fin 1024)
  rw [qDy_at a k j r c hr hc, h3, mul64, refDy_at, h1, refDec_eq N hN, ← e3, ← hR, ← hC]
  rfl

/-- The third results agree. -/
theorem out2_agree : a.out2 = Cert.ReferenceIdeal.Gen.k0_pay1 (F := Ideal) (a.a0 (ix2 0 0)) a.a3 := by
  funext y
  obtain ⟨r, c, rfl⟩ : ∃ (r : Fin 2048) (c : Fin 1024), y = ix2 r c := ⟨y 0, y 1, eq_ix2 y⟩
  have hr := r.isLt; have hc := c.isLt
  rw [pay1_at]
  unfold out2
  rw [scales_at]
  show refScale _ (rd a.a3 0 (512 * (r.val / 512) + r.val % 512) (128 * (2 * (c.val / 128) / 2) + c.val % 128)) = _
  rw [show 512 * (r.val / 512) + r.val % 512 = r.val from by omega, show 128 * (2 * (c.val / 128) / 2) + c.val % 128 = c.val from by omega, rd_ix2]

/-- The second results agree. -/
theorem out1_agree (hg : 0 < a.a0 (ix2 0 0)) : a.out1 = refBytes (a.a0 (ix2 0 0)) a.a1 a.a2 a.a3 := by
  funext y
  obtain ⟨r, c, rfl⟩ : ∃ (r : Fin 2048) (c : Fin 8192), y = ix2 r c := ⟨y 0, y 1, eq_ix2 y⟩
  have hr := r.isLt; have hc := c.isLt
  obtain ⟨⟨A, hA, a1, a2⟩, -⟩ := elt_agree a hg (c.val / 512) (r.val / 512) (r.val % 512) (2 * (c.val % 512)) (by omega) (by omega) r ⟨2 * c.val + 0, by omega⟩ (by omega) (by show 2 * c.val + 0 = _; omega)
  obtain ⟨⟨B, hB, b1, b2⟩, -⟩ := elt_agree a hg (c.val / 512) (r.val / 512) (r.val % 512) (2 * (c.val % 512) + 1) (by omega) (by omega) r ⟨2 * c.val + 1, by omega⟩ (by omega) (by show 2 * c.val + 1 = _; omega)
  rw [refBytes_at, a1, b1, ← pack_eq A B hA hB, ← a2, ← b2]
  rfl

/-- Kernel and reference decode the same weights. -/
theorem wt_agree (k c : Nat) (hk : k < 16) (hc : c < 1024) (q : Fin 2880) (z : S1024x3072.Idx) (h0 : (z 0).val = c)
    (h1 : (z 1).val = 256 * (q.val / 256) + 128 * (q.val % 2) + q.val % 256 / 2) (K : Fin 16384) (hK : K.val = 1024 * k + c) :
    a.wts k z = refWt a.a4 a.a5 (ix2 K q) := by
  have hq := q.isLt
  rw [refWt_at, pay18_at]
  unfold wts wElt
  rw [h0, h1]
  have ej : 128 * ((256 * (q.val / 256) + 128 * (q.val % 2) + q.val % 256 / 2) / 256) + (256 * (q.val / 256) + 128 * (q.val % 2) + q.val % 256 / 2) % 128 = q.val / 2 := by
    have e1 : (256 * (q.val / 256) + 128 * (q.val % 2) + q.val % 256 / 2) / 256 = q.val / 256 := by omega
    have e2 : (256 * (q.val / 256) + 128 * (q.val % 2) + q.val % 256 / 2) % 128 = q.val % 256 / 2 := by omega
    rw [e1, e2]; omega
  have el : (256 * (q.val / 256) + 128 * (q.val % 2) + q.val % 256 / 2) % 256 < 128 ↔ q.val % 2 = 0 := by omega
  have e4 : wByte (sub a.a4 0 (1024 * k) 0) c (q.val / 2) = a.a4 (ix2 K ⟨q.val / 2, by omega⟩) := by
    unfold wByte
    rw [dif_pos ⟨hc, by omega⟩]
    show rd a.a4 0 (1024 * k + c) (0 + q.val / 2) = _
    rw [← hK, Nat.zero_add]
    exact rd_ix2 a.a4 0 K (⟨q.val / 2, by omega⟩ : Fin 1440)
  have e5 : wScale (sub a.a5 0 (1024 * k) 0) c (q.val / 2 / 8) = a.a5 (ix2 K ⟨q.val / 16, by omega⟩) * (64 : ℝ) := by
    unfold wScale
    rw [dif_pos ⟨hc, by omega⟩]
    refine congrArg (· * ((64 : ℝ) : EReal)) ?_
    show rd a.a5 0 (1024 * k + c) (0 + q.val / 2 / 8) = _
    rw [← hK, Nat.zero_add, show q.val / 2 / 8 = q.val / 16 from by omega]
    exact rd_ix2 a.a5 0 K (⟨q.val / 16, by omega⟩ : Fin 180)
  dsimp only
  rw [ej, e4, e5]
  by_cases h : q.val % 2 = 0
  · rw [if_pos (el.2 h), if_pos h]; exact wt_lo _ _
  · rw [if_neg (fun e => h (el.1 e)), if_neg h]; exact wt_hi _ _

theorem dotK_plain : dot_S512x1024_S1024x3072_S512x3072_1_0_0_1_n_n = DotDims.plain 512 1024 3072 := rfl

/-- An element of a step's product. -/
theorem part_at (k j : Nat) (r : Fin 512) (q : Fin 3072) :
    a.part k j (ix2 r q) = ∑ c : Fin 1024, a.dys k j (ix2 r c) * a.wts k (ix2 c q) := by
  have h : a.part k j (ix2 r q) = FloatOps.matmul (F := Ideal) (φ₁ := .bf16) (φ₂ := .bf16) dot_S512x1024_S1024x3072_S512x3072_1_0_0_1_n_n none (a.dys k j) (a.wts k) (constant (F := Ideal) S512x3072 .f32 0x00000000#32) (ix2 r q) := rfl
  rw [h, dotK_plain, Ideal.matmul_plain_apply]
  show Ideal.ofBits .f32 0x00000000#32 + _ = _
  rw [f0, EReal.coe_zero, zero_add]

/-- The first results agree. -/
theorem out0_agree (hg : 0 < a.a0 (ix2 0 0)) : a.out0 = refOut (a.a0 (ix2 0 0)) a.a1 a.a2 a.a3 a.a4 a.a5 (a.a0 (ix2 0 1)) := by
  funext y
  obtain ⟨R, C, rfl⟩ : ∃ (r : Fin 2048) (c : Fin 2880), y = ix2 r c := ⟨y 0, y 1, eq_ix2 y⟩
  have hR := R.isLt; have hC := C.isLt
  rw [refOut_at]
  refine congrArg (· * a.a0 (ix2 0 1)) ?_
  have hq : 256 * (C.val / 256) + 128 * (C.val % 2) + C.val % 256 / 2 < 3072 := by omega
  show ∑ k ∈ Finset.range 16, a.part k (R.val / 512) (ix2 ⟨R.val % 512, Nat.mod_lt _ (by decide)⟩ ⟨256 * (C.val / 256) + 128 * (C.val % 2) + C.val % 256 / 2, hq⟩) = _
  let f : Nat → EReal := fun n => if h : n < 16384 then refDy (a.a0 (ix2 0 0)) a.a1 a.a2 a.a3 (ix2 R ⟨n, h⟩) * refWt a.a4 a.a5 (ix2 ⟨n, h⟩ C) else 0
  have e : ∑ k : Fin 16384, refDy (a.a0 (ix2 0 0)) a.a1 a.a2 a.a3 (ix2 R k) * refWt a.a4 a.a5 (ix2 k C) = ∑ n ∈ Finset.range (16 * 1024), f n := by
    rw [Finset.sum_range]
    refine Finset.sum_congr rfl fun k _ => ?_
    show _ = if h : k.val < 16384 then _ else _
    rw [dif_pos k.isLt]
  rw [e, Finset.sum_range_mul_split]
  refine Finset.sum_congr rfl fun k hk => ?_
  have hk' := Finset.mem_range.1 hk
  rw [part_at, Finset.sum_range]
  refine Finset.sum_congr rfl fun c _ => ?_
  have hc := c.isLt
  have hn : k * 1024 + c.val < 16384 := by omega
  show _ = if h : k * 1024 + c.val < 16384 then _ else _
  rw [dif_pos hn]
  have ed := (elt_agree a hg k (R.val / 512) (R.val % 512) c.val (by omega) hc R ⟨k * 1024 + c.val, hn⟩ (by omega) (by show k * 1024 + c.val = _; omega)).2
  have ew := wt_agree a k c.val hk' hc C (ix2 c ⟨256 * (C.val / 256) + 128 * (C.val % 2) + C.val % 256 / 2, hq⟩) rfl rfl ⟨k * 1024 + c.val, hn⟩ (by show k * 1024 + c.val = _; omega)
  rw [← ed, ← ew]
  rfl

end Args
end Cert.KernelIdeal.Gen
end
-- ==== Proof.lean ====
/- The claim: the kernel, its ideal reading and the reference run and keep their arguments; the kernel's ideal reading is
   the kernel with no operation rewritten; over the extended reals kernel and reference end with the same three results. -/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.ReferenceIdeal.Value
public import proofs.«01_k».proof.Proof.KernelValues
public import proofs.«01_k».proof.Proof.ReferenceValues
public import proofs.«01_k».proof.Proof.Agree
public import Idealize.ShloMosaic.Adequacy
public import Idealize.ShloMosaic.Init

@[expose] public section

set_option maxRecDepth 16384

noncomputable section

namespace Cert.Proof

open Idealize.ShloMosaic Idealize.SL.Sem Idealize.ShloMosaic.ValueIdx

/-- The side conditions of the precondition's text. -/
theorem preFacts : Cert.Pre_scale_positive.Facts := ⟨by decide, by decide⟩

/-- The precondition says that the global scale is positive. -/
theorem scale_pos (h : Cert.Pre_scale_positive.Facts) (x0 : Cert.Pre_scale_positive.S1x2.Idx → EReal) (x1 x2 x3 x4 x5)
    (hp : Cert.Pre_scale_positive.fn (F := Ideal) x0 x1 x2 x3 x4 x5 = fun _ => 1#1) : 0 < x0 (ix2 0 0) := by
  have e : Cert.Pre_scale_positive.fn (F := Ideal) x0 x1 x2 x3 x4 x5 ix0 = Ideal.cmp .ogt (x0 (ix2 0 0)) (Ideal.ofBits .f32 0x00000000#32) := by
    have e1 : shapeCast Cert.Pre_scale_positive.S_ (extractStridedSlice Cert.Pre_scale_positive.S1x1 ![0, 0] x0 h.slices_S1x2_S1x1_0_0) h.shapeCasts_S1x1_S_ ix0 = x0 (ix2 0 0) := by
      refine (shapeCast_apply _ _ ix0 (ix2 (0 : Fin 1) (0 : Fin 1)) ?_).trans (extractStridedSlice_apply _ _ _ _ (ix2 (0 : Fin 1) (0 : Fin 2)) ?_)
      · rw [Shape.rowMajor_val_two]; rfl
      · intro a; fin_cases a <;> rfl
    rw [← e1]; rfl
  rw [hp, Cert.KernelIdeal.Gen.f0, EReal.coe_zero] at e
  by_contra hn
  simp [Ideal.cmp, hn] at e

theorem claim : Cert.Claim := by
  refine ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, ?_⟩
  intro m g m' g' hpre hagree
  refine ⟨fun c => (Cert.KernelIdeal.Gen.argsOf m c).out0, fun c => (Cert.KernelIdeal.Gen.argsOf m c).out1, fun c => (Cert.KernelIdeal.Gen.argsOf m c).out2,
    Cert.KernelIdeal.Gen.run_values m g, ?_⟩
  refine (θ_run _ _ _).mono (fun r h c => ?_) (Cert.ReferenceIdeal.Value.run_blocks m' g')
  obtain ⟨h0, h1, h2, hr⟩ := h c
  obtain ⟨e0, e1, e2, e3, e4, e5⟩ := hagree c
  have hg : 0 < (Cert.KernelIdeal.Gen.argsOf m c).a0 (ix2 0 0) := scale_pos preFacts _ _ _ _ _ _ (hpre c)
  have E0 : Cert.ReferenceIdeal.Gen.V m' c Cert.ReferenceIdeal.main_arg0 = (Cert.KernelIdeal.Gen.argsOf m c).a0 := e0
  have E1 : Cert.ReferenceIdeal.Gen.V m' c Cert.ReferenceIdeal.main_arg1 = (Cert.KernelIdeal.Gen.argsOf m c).a1 := e1
  have E2 : Cert.ReferenceIdeal.Gen.V m' c Cert.ReferenceIdeal.main_arg2 = (Cert.KernelIdeal.Gen.argsOf m c).a2 := e2
  have E3 : Cert.ReferenceIdeal.Gen.V m' c Cert.ReferenceIdeal.main_arg3 = (Cert.KernelIdeal.Gen.argsOf m c).a3 := e3
  have E4 : Cert.ReferenceIdeal.Gen.V m' c Cert.ReferenceIdeal.main_arg4 = (Cert.KernelIdeal.Gen.argsOf m c).a4 := e4
  have E5 : Cert.ReferenceIdeal.Gen.V m' c Cert.ReferenceIdeal.main_arg5 = (Cert.KernelIdeal.Gen.argsOf m c).a5 := e5
  refine ⟨h0.trans ?_, h1.trans ?_, h2.trans ?_, hr⟩
  · rw [Cert.ReferenceIdeal.Gen.arr6, E0, E1, E2, E3, E4, E5]
    exact ((Cert.KernelIdeal.Gen.argsOf m c).out0_agree hg).symm
  · rw [Cert.ReferenceIdeal.Gen.arr7, E0, E1, E2, E3]
    exact ((Cert.KernelIdeal.Gen.argsOf m c).out1_agree hg).symm
  · rw [Cert.ReferenceIdeal.Gen.arr8, E0, E3]
    exact (Cert.KernelIdeal.Gen.argsOf m c).out2_agree.symm

end Cert.Proof

end
